-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gains [hPre_finite_gains : Cert.Pre_finite_gains.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gains [hPre_finite_gains : Cert.Pre_finite_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_gains [hKernelIdeal : Cert.KernelIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_gains [hReferenceIdeal : Cert.ReferenceIdeal.Facts] [hPre_finite_gains : Cert.Pre_finite_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_gains [hKernelIdeal : Cert.KernelIdeal.Facts] [hReferenceIdeal : Cert.ReferenceIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v24) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v10_0)) (v1 : (c : Dev Cert.InprojIdeal.nD) → Buf (Elt Ideal) ((c.tc : Thread Cert.InprojIdeal.nD Cert.InprojIdeal.τ).loc Cert.InprojIdeal.main_v10_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v10_0) = v0 c
          ∧ r.2.mem ((c.tc : Thread Cert.InprojIdeal.nD Cert.InprojIdeal.τ).loc Cert.InprojIdeal.main_v10_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v19) = v0 c
          ∧ r.2.mem ((c.tc : Thread Cert.InprojReferenceIdeal.nD Cert.InprojReferenceIdeal.τ).loc Cert.InprojReferenceIdeal.main_v21) = v1 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v27) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hInproj : Cert.Inproj.Facts) (hInprojIdeal : Cert.InprojIdeal.Facts) (hInprojReferenceIdeal : Cert.InprojReferenceIdeal.Facts) (hMerge : Cert.Merge.Facts) (hMergeIdeal : Cert.MergeIdeal.Facts) (hMergeReferenceIdeal : Cert.MergeReferenceIdeal.Facts) (hPre_finite_gains : Cert.Pre_finite_gains.Facts),
    quiescent_Kernel (hKernel := hKernel)
    ∧ quiescent_KernelIdeal (hKernelIdeal := hKernelIdeal)
    ∧ quiescent_KernelIdeal_pre_finite_gains (hKernelIdeal := hKernelIdeal) (hPre_finite_gains := hPre_finite_gains)
    ∧ quiescent_ReferenceIdeal (hReferenceIdeal := hReferenceIdeal)
    ∧ quiescent_ReferenceIdeal_pre_finite_gains (hReferenceIdeal := hReferenceIdeal) (hPre_finite_gains := hPre_finite_gains)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal_pre_finite_gains (hKernelIdeal := hKernelIdeal) (hReferenceIdeal := hReferenceIdeal) (hPre_finite_gains := hPre_finite_gains)
    ∧ preserves_Ffn_FfnIdeal
    ∧ algebraic_FfnIdeal_FfnReferenceIdeal (hFfnIdeal := hFfnIdeal) (hFfnReferenceIdeal := hFfnReferenceIdeal)
    ∧ preserves_Inproj_InprojIdeal
    ∧ algebraic_InprojIdeal_InprojReferenceIdeal (hInprojIdeal := hInprojIdeal) (hInprojReferenceIdeal := hInprojReferenceIdeal)
    ∧ preserves_Merge_MergeIdeal
    ∧ algebraic_MergeIdeal_MergeReferenceIdeal (hMergeIdeal := hMergeIdeal) (hMergeReferenceIdeal := hMergeReferenceIdeal)
-- ==== Pre_finite_gains.lean ====
abbrev S8192x16896 : Shape := ⟨2, ![8192, 16896]⟩
abbrev S1x32 : Shape := ⟨2, ![1, 32]⟩
abbrev S1x64 : Shape := ⟨2, ![1, 64]⟩
abbrev S_ : Shape := ⟨0, ![]⟩

class Facts : Prop where
  bcast_S_S1x32 : S_.BroadcastsInDim S1x32 (![] : Fin 0 → Fin S1x32.rank)
  reducesTo_S1x32_S_d0_1 : S1x32.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn {F : FTy → Type} [FloatOps F] (main_arg0 : FVec F S8192x16896 .bf16) (main_arg1 : FVec F S1x32 .f32) (main_arg2 : FVec F S1x64 .f32) (main_arg3 : FVec F S1x64 .f32) : IVec S_ 1 :=
  let main_cst : FVec F S_ .f32 := constant S_ .f32 0x7F800000#32
  let main_v0 : FVec F S1x32 .f32 := broadcastInDim S1x32 ![] bcast_S_S1x32 main_cst
  let main_v1 : IVec S1x32 1 := cmpf .olt main_arg1 main_v0
  let main_c : IVec S_ 1 := constantI S_ 1 1#1
  let main_v2 : IVec S_ 1 := (fun x v => Host.reduce IntOp.andi x v reducesTo_S1x32_S_d0_1 h_S_) main_v1 main_c
  let main_v3 : FVec F S1x64 .f32 := Host.absf main_arg2
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_c_1 : IVec S_ 1 := constantI S_ 1 1#1
  let main_v6 : IVec S_ 1 := (fun x v => Host.reduce IntOp.andi x v reducesTo_S1x64_S_d0_1 h_S_) main_v5 main_c_1
  let main_v7 : IVec S_ 1 := andi main_v2 main_v6
  let main_v8 : FVec F S1x64 .f32 := Host.absf main_arg3
  let main_cst_2 : FVec F S_ .f32 := constant S_ .f32 0x7F800000#32
  let main_v9 : FVec F S1x64 .f32 := broadcastInDim S1x64 ![] bcast_S_S1x64 main_cst_2
  let main_v10 : IVec S1x64 1 := cmpf .olt main_v8 main_v9
  let main_c_3 : IVec S_ 1 := constantI S_ 1 1#1
  let main_v11 : IVec S_ 1 := (fun x v => Host.reduce IntOp.andi x v reducesTo_S1x64_S_d0_1 h_S_) main_v10 main_c_3
  let main_v12 : IVec S_ 1 := andi main_v7 main_v11
  main_v12
-- ==== Kernel.lean ====
abbrev S8192x16896 : Shape := ⟨2, ![8192, 16896]⟩
abbrev S1x32 : Shape := ⟨2, ![1, 32]⟩
abbrev S1x64 : Shape := ⟨2, ![1, 64]⟩
abbrev S32 : Shape := ⟨1, ![32]⟩
abbrev S64 : Shape := ⟨1, ![64]⟩
abbrev S8192x2048 : Shape := ⟨2, ![8192, 2048]⟩
abbrev S128x2048 : Shape := ⟨2, ![128, 2048]⟩
abbrev S128x256 : Shape := ⟨2, ![128, 256]⟩
abbrev S256x256 : Shape := ⟨2, ![256, 256]⟩
abbrev S256x64 : Shape := ⟨2, ![256, 64]⟩
abbrev S256 : Shape := ⟨1, ![256]⟩
abbrev S256x1 : Shape := ⟨2, ![256, 1]⟩
abbrev S128x64 : Shape := ⟨2, ![128, 64]⟩
abbrev S128 : Shape := ⟨1, ![128]⟩
abbrev S128x1 : Shape := ⟨2, ![128, 1]⟩
abbrev S1 : Shape := ⟨1, ![1]⟩

abbrev nBuf : Space → Nat
  | .hbm => 10
  | .vmem => 14
  | .smem => 1
  | _ => 0

abbrev bufTy : (tb : Table) → Fin (tcTables nBuf tb) → BufTy
  | .hbm, ⟨0, _⟩ => ⟨S8192x16896, .bf16⟩
  | .hbm, ⟨1, _⟩ => ⟨S1x32, .f32⟩
  | .hbm, ⟨2, _⟩ => ⟨S1x64, .f32⟩
  | .hbm, ⟨3, _⟩ => ⟨S1x64, .f32⟩
  | .hbm, ⟨4, _⟩ => ⟨S32, .f32⟩
  | .hbm, ⟨5, _⟩ => ⟨S64, .f32⟩
  | .hbm, ⟨6, _⟩ => ⟨S1x64, .f32⟩
  | .hbm, ⟨7, _⟩ => ⟨S64, .f32⟩
  | .hbm, ⟨8, _⟩ => ⟨S1x64, .f32⟩
  | .hbm, ⟨9, _⟩ => ⟨S8192x2048, .bf16⟩
  | .local _ .vmem, ⟨0, _⟩ => ⟨S128x2048, .bf16⟩
  | .local _ .vmem, ⟨1, _⟩ => ⟨S128x2048, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S1x64, .f32⟩
  | .local _ .vmem, ⟨11, _⟩ => ⟨S1x64, .f32⟩
  | .local _ .vmem, ⟨12, _⟩ => ⟨S128x2048, .bf16⟩
  | .local _ .vmem, ⟨13, _⟩ => ⟨S128x2048, .bf16⟩
  | .local _ .smem, ⟨0, _⟩ => ⟨S32, .f32⟩
  | _, _ => ⟨S8192x16896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c48_i32 : BitVec 32 := 48#32
  let c0_i32 : BitVec 32 := 0#32
  ![v1.toNat, c48_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c48_i32 : BitVec 32 := 48#32
  let c0_i32_0 : BitVec 32 := 0#32
  ![v3.toNat, c48_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c49_i32 : BitVec 32 := 49#32
  let c0_i32 : BitVec 32 := 0#32
  ![v1.toNat, c49_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c49_i32 : BitVec 32 := 49#32
  let c0_i32_0 : BitVec 32 := 0#32
  ![v3.toNat, c49_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x16896 : Shape := ⟨2, ![8192, 16896]⟩
abbrev S1x32 : Shape := ⟨2, ![1, 32]⟩
abbrev S1x64 : Shape := ⟨2, ![1, 64]⟩
abbrev S32 : Shape := ⟨1, ![32]⟩
abbrev S8192x2048 : Shape := ⟨2, ![8192, 2048]⟩
abbrev S4x2048x4x8x64 : Shape := ⟨5, ![4, 2048, 4, 8, 64]⟩
abbrev S64 : Shape := ⟨1, ![64]⟩
abbrev S_ : Shape := ⟨0, ![]⟩
abbrev S4x2048x4x8 : Shape := ⟨4, ![4, 2048, 4, 8]⟩
abbrev S4x2048x4x8x1 : Shape := ⟨5, ![4, 2048, 4, 8, 1]⟩
abbrev S1x1x1x1x64 : Shape := ⟨5, ![1, 1, 1, 1, 64]⟩
abbrev S8192x256 : Shape := ⟨2, ![8192, 256]⟩
abbrev S4x2048x4x64 : Shape := ⟨4, ![4, 2048, 4, 64]⟩
abbrev S4x2048x4 : Shape := ⟨3, ![4, 2048, 4]⟩
abbrev S4x2048x4x1 : Shape := ⟨4, ![4, 2048, 4, 1]⟩
abbrev S1x1x1x64 : Shape := ⟨4, ![1, 1, 1, 64]⟩
abbrev S4x16x128x4x8x64 : Shape := ⟨6, ![4, 16, 128, 4, 8, 64]⟩
abbrev S4x2176x4x64 : Shape := ⟨4, ![4, 2176, 4, 64]⟩
abbrev S4x17x128x4x64 : Shape := ⟨5, ![4, 17, 128, 4, 64]⟩
abbrev S4x16x128x4x64 : Shape := ⟨5, ![4, 16, 128, 4, 64]⟩
abbrev S4x16x256x4x64 : Shape := ⟨5, ![4, 16, 256, 4, 64]⟩
abbrev S4x16x4x256x128x8 : Shape := ⟨6, ![4, 16, 4, 256, 128, 8]⟩
abbrev S4x16x4x8x128x256 : Shape := ⟨6, ![4, 16, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S4x8 : Shape := ⟨2, ![4, 8]⟩
abbrev S4x8x1x1 : Shape := ⟨4, ![4, 8, 1, 1]⟩
abbrev S1x1x128x256 : Shape := ⟨4, ![1, 1, 128, 256]⟩
abbrev S4x8x128x256 : Shape := ⟨4, ![4, 8, 128, 256]⟩
abbrev S1x1x4x8x128x256 : Shape := ⟨6, ![1, 1, 4, 8, 128, 256]⟩
abbrev S1x16x1x1x128x256 : Shape := ⟨6, ![1, 16, 1, 1, 128, 256]⟩
abbrev S1x1x4x8x1 : Shape := ⟨5, ![1, 1, 4, 8, 1]⟩
abbrev S4x16x4x8x128 : Shape := ⟨5, ![4, 16, 4, 8, 128]⟩
abbrev S4x16x4x8x128x1 : Shape := ⟨6, ![4, 16, 4, 8, 128, 1]⟩
abbrev S4x16x4x64x8x128 : Shape := ⟨6, ![4, 16, 4, 64, 8, 128]⟩

abbrev nBuf : Space → Nat
  | .hbm => 145
  | .vmem => 0
  | .smem => 0
  | _ => 0

abbrev hbmTy0_0 (i : Nat) : BufTy := match i % 128 with
  | 0 => ⟨S8192x16896, .bf16⟩
  | 1 => ⟨S1x32, .f32⟩
  | 2 => ⟨S1x64, .f32⟩
  | 3 => ⟨S1x64, .f32⟩
  | 4 => ⟨S32, .f32⟩
  | 5 => ⟨S8192x2048, .bf16⟩
  | 6 => ⟨S8192x2048, .f32⟩
  | 7 => ⟨S4x2048x4x8x64, .f32⟩
  | 8 => ⟨S64, .f32⟩
  | 9 => ⟨S4x2048x4x8x64, .f32⟩
  | 10 => ⟨S_, .f32⟩
  | 11 => ⟨S4x2048x4x8, .f32⟩
  | 12 => ⟨S4x2048x4x8x1, .f32⟩
  | 13 => ⟨S_, .f32⟩
  | 14 => ⟨S4x2048x4x8x1, .f32⟩
  | 15 => ⟨S4x2048x4x8x1, .f32⟩
  | 16 => ⟨S_, .f32⟩
  | 17 => ⟨S4x2048x4x8x1, .f32⟩
  | 18 => ⟨S4x2048x4x8x1, .f32⟩
  | 19 => ⟨S4x2048x4x8x1, .f32⟩
  | 20 => ⟨S4x2048x4x8x64, .f32⟩
  | 21 => ⟨S4x2048x4x8x64, .f32⟩
  | 22 => ⟨S1x1x1x1x64, .f32⟩
  | 23 => ⟨S4x2048x4x8x64, .f32⟩
  | 24 => ⟨S4x2048x4x8x64, .f32⟩
  | 25 => ⟨S8192x256, .bf16⟩
  | 26 => ⟨S8192x256, .f32⟩
  | 27 => ⟨S4x2048x4x64, .f32⟩
  | 28 => ⟨S64, .f32⟩
  | 29 => ⟨S4x2048x4x64, .f32⟩
  | 30 => ⟨S_, .f32⟩
  | 31 => ⟨S4x2048x4, .f32⟩
  | 32 => ⟨S4x2048x4x1, .f32⟩
  | 33 => ⟨S_, .f32⟩
  | 34 => ⟨S4x2048x4x1, .f32⟩
  | 35 => ⟨S4x2048x4x1, .f32⟩
  | 36 => ⟨S_, .f32⟩
  | 37 => ⟨S4x2048x4x1, .f32⟩
  | 38 => ⟨S4x2048x4x1, .f32⟩
  | 39 => ⟨S4x2048x4x1, .f32⟩
  | 40 => ⟨S4x2048x4x64, .f32⟩
  | 41 => ⟨S4x2048x4x64, .f32⟩
  | 42 => ⟨S1x1x1x64, .f32⟩
  | 43 => ⟨S4x2048x4x64, .f32⟩
  | 44 => ⟨S4x2048x4x64, .f32⟩
  | 45 => ⟨S8192x256, .bf16⟩
  | 46 => ⟨S8192x256, .f32⟩
  | 47 => ⟨S4x2048x4x64, .f32⟩
  | 48 => ⟨S4x16x128x4x8x64, .f32⟩
  | 49 => ⟨S_, .i32⟩
  | 50 => ⟨S_, .f32⟩
  | 51 => ⟨S4x2176x4x64, .f32⟩
  | 52 => ⟨S4x17x128x4x64, .f32⟩
  | 53 => ⟨S_, .i32⟩
  | 54 => ⟨S_, .f32⟩
  | 55 => ⟨S4x2176x4x64, .f32⟩
  | 56 => ⟨S4x17x128x4x64, .f32⟩
  | 57 => ⟨S4x16x128x4x64, .f32⟩
  | 58 => ⟨S4x16x128x4x64, .f32⟩
  | 59 => ⟨S4x16x256x4x64, .f32⟩
  | 60 => ⟨S4x16x128x4x64, .f32⟩
  | 61 => ⟨S4x16x128x4x64, .f32⟩
  | 62 => ⟨S4x16x256x4x64, .f32⟩
  | 63 => ⟨S4x16x4x256x128x8, .f32⟩
  | 64 => ⟨S4x16x4x8x128x256, .f32⟩
  | 65 => ⟨S_, .f32⟩
  | 66 => ⟨S4x16x4x8x128x256, .f32⟩
  | 67 => ⟨S4x16x4x8x128x256, .f32⟩
  | 68 => ⟨S128, .i32⟩
  | 69 => ⟨S128x1, .i32⟩
  | 70 => ⟨S_, .i32⟩
  | 71 => ⟨S128x1, .i32⟩
  | 72 => ⟨S128x1, .i32⟩
  | 73 => ⟨S256, .i32⟩
  | 74 => ⟨S1x256, .i32⟩
  | 75 => ⟨S128x256, .i32⟩
  | 76 => ⟨S128x256, .i32⟩
  | 77 => ⟨S128x256, .i32⟩
  | 78 => ⟨S16, .i32⟩
  | 79 => ⟨S16x1x1, .i32⟩
  | 80 => ⟨S_, .i32⟩
  | 81 => ⟨S16x1x1, .i32⟩
  | 82 => ⟨S16x1x1, .i32⟩
  | 83 => ⟨S_, .i32⟩
  | 84 => ⟨S16x1x1, .i32⟩
  | 85 => ⟨S16x1x1, .i32⟩
  | 86 => ⟨S256, .i32⟩
  | 87 => ⟨S1x1x256, .i32⟩
  | 88 => ⟨S16x1x256, .i32⟩
  | 89 => ⟨S16x1x256, .i32⟩
  | 90 => ⟨S16x1x256, .i32⟩
  | 91 => ⟨S_, .i32⟩
  | 92 => ⟨S128x256, .i32⟩
  | 93 => ⟨S128x256, .i1⟩
  | 94 => ⟨S_, .i32⟩
  | 95 => ⟨S128x256, .i32⟩
  | 96 => ⟨S128x256, .i1⟩
  | 97 => ⟨S128x256, .i1⟩
  | 98 => ⟨S_, .i32⟩
  | 99 => ⟨S16x1x256, .i32⟩
  | 100 => ⟨S16x1x256, .i1⟩
  | 101 => ⟨S1x128x256, .i1⟩
  | 102 => ⟨S16x128x256, .i1⟩
  | 103 => ⟨S16x128x256, .i1⟩
  | 104 => ⟨S16x128x256, .i1⟩
  | 105 => ⟨S4x8, .f32⟩
  | 106 => ⟨S4x8x1x1, .f32⟩
  | 107 => ⟨S128x256, .f32⟩
  | 108 => ⟨S1x1x128x256, .f32⟩
  | 109 => ⟨S4x8x128x256, .f32⟩
  | 110 => ⟨S4x8x128x256, .f32⟩
  | 111 => ⟨S4x8x128x256, .f32⟩
  | 112 => ⟨S1x1x4x8x128x256, .f32⟩
  | 113 => ⟨S4x16x4x8x128x256, .f32⟩
  | 114 => ⟨S4x16x4x8x128x256, .f32⟩
  | 115 => ⟨S1x16x1x1x128x256, .i1⟩
  | 116 => ⟨S_, .f32⟩
  | 117 => ⟨S_, .f32⟩
  | 118 => ⟨S4x16x4x8x128x256, .i1⟩
  | 119 => ⟨S4x16x4x8x128x256, .f32⟩
  | 120 => ⟨S4x16x4x8x128x256, .f32⟩
  | 121 => ⟨S32, .f32⟩
  | 122 => ⟨S4x8, .f32⟩
  | 123 => ⟨S1x1x4x8x1, .f32⟩
  | 124 => ⟨S_, .f32⟩
  | 125 => ⟨S4x16x4x8x128, .f32⟩
  | 126 => ⟨S4x16x4x8x128, .f32⟩
  | 127 => ⟨S4x16x4x8x128, .f32⟩
  | _ => ⟨S8192x16896, .bf16⟩

abbrev hbmTy0_1 (i : Nat) : BufTy := match i % 128 with
  | 0 => ⟨S4x16x4x8x128x1, .f32⟩
  | 1 => ⟨S4x16x4x8x128x256, .f32⟩
  | 2 => ⟨S4x16x4x8x128x256, .f32⟩
  | 3 => ⟨S4x16x4x8x128x256, .f32⟩
  | 4 => ⟨S_, .f32⟩
  | 5 => ⟨S4x16x4x8x128, .f32⟩
  | 6 => ⟨S4x16x4x8x128, .f32⟩
  | 7 => ⟨S4x16x4x8x128, .f32⟩
  | 8 => ⟨S4x16x4x8x128, .f32⟩
  | 9 => ⟨S4x16x4x8x128, .f32⟩
  | 10 => ⟨S4x16x4x8x128x1, .f32⟩
  | 11 => ⟨S4x16x4x8x128x256, .f32⟩
  | 12 => ⟨S4x16x4x8x128x256, .f32⟩
  | 13 => ⟨S4x16x4x64x8x128, .f32⟩
  | 14 => ⟨S4x16x128x4x8x64, .f32⟩
  | 15 => ⟨S8192x2048, .f32⟩
  | 16 => ⟨S8192x2048, .bf16⟩
  | _ => ⟨S8192x16896, .bf16⟩

abbrev hbmTy (i : Nat) : BufTy := match i / 128 with
  | 0 => hbmTy0_0 i
  | 1 => hbmTy0_1 i
  | _ => ⟨S8192x16896, .bf16⟩

abbrev bufTy : (tb : Table) → Fin (tcTables nBuf tb) → BufTy
  | .hbm, ⟨i, _⟩ => hbmTy i
  | _, _ => ⟨S8192x16896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c : Ref sig .tc := ⟨.hbm, 49, rfl⟩
abbrev main_call0_v0 : Ref sig .tc := ⟨.hbm, 50, rfl⟩
abbrev main_v38 : Ref sig .tc := ⟨.hbm, 51, rfl⟩
abbrev main_v39 : Ref sig .tc := ⟨.hbm, 52, rfl⟩
abbrev main_c_6 : Ref sig .tc := ⟨.hbm, 53, rfl⟩
abbrev main_call1_v0 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c_9 : Ref sig .tc := ⟨.hbm, 80, rfl⟩
abbrev main_v63 : Ref sig .tc := ⟨.hbm, 81, rfl⟩
abbrev main_v64 : Ref sig .tc := ⟨.hbm, 82, rfl⟩
abbrev main_c_10 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_c_11 : Ref sig .tc := ⟨.hbm, 91, rfl⟩
abbrev main_v72 : Ref sig .tc := ⟨.hbm, 92, rfl⟩
abbrev main_v73 : Ref sig .tc := ⟨.hbm, 93, rfl⟩
abbrev main_c_12 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_c_13 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_14 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_15 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_16 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩

abbrev nD : Nat := 1
abbrev τ : Topo := Topo.v7x

variable {F : FTy → Type} [FloatOps F]
-- ==== Ffn.lean ====
abbrev S8192x2048 : Shape := ⟨2, ![8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 14
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S1x2048, .f32⟩
  | .hbm, ⟨7, _⟩ => ⟨S2048x5632, .f32⟩
  | .hbm, ⟨8, _⟩ => ⟨S2048x5632, .bf16⟩
  | .hbm, ⟨9, _⟩ => ⟨S2048x5632, .f32⟩
  | .hbm, ⟨10, _⟩ => ⟨S2048x5632, .bf16⟩
  | .hbm, ⟨11, _⟩ => ⟨S5632x2048, .f32⟩
  | .hbm, ⟨12, _⟩ => ⟨S5632x2048, .bf16⟩
  | .hbm, ⟨13, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S8192x2048 : Shape := ⟨2, ![8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x5632 : Shape := ⟨2, ![2048, 5632]⟩
abbrev S8192x5632 : Shape := ⟨2, ![8192, 5632]⟩
abbrev S5632x2048 : Shape := ⟨2, ![5632, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S2048x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S_, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S2048x5632, .f32⟩
  | .hbm, ⟨34, _⟩ => ⟨S8192x5632, .f32⟩
  | .hbm, ⟨35, _⟩ => ⟨S8192x5632, .f32⟩
  | .hbm, ⟨36, _⟩ => ⟨S5632x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== Inproj.lean ====
abbrev S8192x2048 : Shape := ⟨2, ![8192, 2048]⟩
abbrev S1x2048 : Shape := ⟨2, ![1, 2048]⟩
abbrev S1x2048x16960 : Shape := ⟨3, ![1, 2048, 16960]⟩
abbrev S2048x16960 : Shape := ⟨2, ![2048, 16960]⟩
abbrev S2048x10240 : Shape := ⟨2, ![2048, 10240]⟩
abbrev S2048x6656 : Shape := ⟨2, ![2048, 6656]⟩
abbrev S2048x16896 : Shape := ⟨2, ![2048, 16896]⟩
abbrev S2048x64 : Shape := ⟨2, ![2048, 64]⟩
abbrev S_ : Shape := ⟨0, ![]⟩
abbrev S2048x128 : Shape := ⟨2, ![2048, 128]⟩
abbrev S2048 : Shape := ⟨1, ![2048]⟩
abbrev S8192x16896 : Shape := ⟨2, ![8192, 16896]⟩
abbrev S8192x128 : Shape := ⟨2, ![8192, 128]⟩
abbrev S512x2048 : Shape := ⟨2, ![512, 2048]⟩
abbrev S2048x1536 : Shape := ⟨2, ![2048, 1536]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩

abbrev nBuf : Space → Nat
  | .hbm => 17
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x16960, .f32⟩
  | .hbm, ⟨3, _⟩ => ⟨S2048x16960, .f32⟩
  | .hbm, ⟨4, _⟩ => ⟨S2048x10240, .f32⟩
  | .hbm, ⟨5, _⟩ => ⟨S2048x6656, .f32⟩
  | .hbm, ⟨6, _⟩ => ⟨S2048x16896, .f32⟩
  | .hbm, ⟨7, _⟩ => ⟨S2048x16896, .bf16⟩
  | .hbm, ⟨8, _⟩ => ⟨S2048x64, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S2048, .f32⟩
  | .hbm, ⟨14, _⟩ => ⟨S1x2048, .f32⟩
  | .hbm, ⟨15, _⟩ => ⟨S8192x16896, .bf16⟩
  | .hbm, ⟨16, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S2048x128, .bf16⟩
  | .local _ .vmem, ⟨6, _⟩ => ⟨S512x1536, .bf16⟩
  | .local _ .vmem, ⟨7, _⟩ => ⟨S512x1536, .bf16⟩
  | .local _ .vmem, ⟨8, _⟩ => ⟨S512x128, .f32⟩
  | .local _ .vmem, ⟨9, _⟩ => ⟨S512x128, .f32⟩
  | .local _ .vmem, ⟨10, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InprojReferenceIdeal.lean ====
abbrev S8192x2048 : Shape := ⟨2, ![8192, 2048]⟩
abbrev S1x2048 : Shape := ⟨2, ![1, 2048]⟩
abbrev S1x2048x16960 : Shape := ⟨3, ![1, 2048, 16960]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x16960 : Shape := ⟨2, ![2048, 16960]⟩
abbrev S8192x16960 : Shape := ⟨2, ![8192, 16960]⟩
abbrev S8192x10240 : Shape := ⟨2, ![8192, 10240]⟩
abbrev S8192x6656 : Shape := ⟨2, ![8192, 6656]⟩
abbrev S8192x16896 : Shape := ⟨2, ![8192, 16896]⟩
abbrev S8192x64 : Shape := ⟨2, ![8192, 64]⟩
abbrev S8192x128 : Shape := ⟨2, ![8192, 128]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x16960, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S2048x16960, .f32⟩
  | .hbm, ⟨21, _⟩ => ⟨S8192x16960, .f32⟩
  | .hbm, ⟨22, _⟩ => ⟨S8192x10240, .f32⟩
  | .hbm, ⟨23, _⟩ => ⟨S8192x6656, .f32⟩
  | .hbm, ⟨24, _⟩ => ⟨S8192x16896, .f32⟩
  | .hbm, ⟨25, _⟩ => ⟨S8192x16896, .bf16⟩
  | .hbm, ⟨26, _⟩ => ⟨S8192x64, .f32⟩
  | .hbm, ⟨27, _⟩ => ⟨S_, .i32⟩
  | .hbm, ⟨28, _⟩ => ⟨S_, .f32⟩
  | .hbm, ⟨29, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Merge.lean ====
abbrev S8192x2048 : Shape := ⟨2, ![8192, 2048]⟩
abbrev S8192x4096 : Shape := ⟨2, ![8192, 4096]⟩
abbrev S8192x16896 : Shape := ⟨2, ![8192, 16896]⟩
abbrev S1x4096x2048 : Shape := ⟨3, ![1, 4096, 2048]⟩
abbrev S1x2048x2048 : Shape := ⟨3, ![1, 2048, 2048]⟩
abbrev S4096x2048 : Shape := ⟨2, ![4096, 2048]⟩
abbrev S2048x2048 : Shape := ⟨2, ![2048, 2048]⟩
abbrev S512x2048 : Shape := ⟨2, ![512, 2048]⟩
abbrev S512x4096 : Shape := ⟨2, ![512, 4096]⟩
abbrev S512x512 : Shape := ⟨2, ![512, 512]⟩
abbrev S4096x512 : Shape := ⟨2, ![4096, 512]⟩
abbrev S2048x512 : Shape := ⟨2, ![2048, 512]⟩

abbrev nBuf : Space → Nat
  | .hbm => 14
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x4096, .bf16⟩
  | .hbm, ⟨2, _⟩ => ⟨S8192x2048, .bf16⟩
  | .hbm, ⟨3, _⟩ => ⟨S8192x16896, .bf16⟩
  | .hbm, ⟨4, _⟩ => ⟨S1x4096x2048, .f32⟩
  | .hbm, ⟨5, _⟩ => ⟨S1x2048x2048, .f32⟩
  | .hbm, ⟨6, _⟩ => ⟨S1x2048x2048, .f32⟩
  | .hbm, ⟨7, _⟩ => ⟨S4096x2048, .f32⟩
  | .hbm, ⟨8, _⟩ => ⟨S4096x2048, .bf16⟩
  | .hbm, ⟨9, _⟩ => ⟨S2048x2048, .f32⟩
  | .hbm, ⟨10, _⟩ => ⟨S2048x2048, .bf16⟩
  | .hbm, ⟨11, _⟩ => ⟨S2048x2048, .f32⟩
  | .hbm, ⟨12, _⟩ => ⟨S2048x2048, .bf16⟩
  | .hbm, ⟨13, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x4096, .bf16⟩
  | .local _ .vmem, ⟨3, _⟩ => ⟨S512x4096, .bf16⟩
  | .local _ .vmem, ⟨4, _⟩ => ⟨S512x2048, .bf16⟩
  | .local _ .vmem, ⟨5, _⟩ => ⟨S512x2048, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S4096x512, .bf16⟩
  | .local _ .vmem, ⟨11, _⟩ => ⟨S4096x512, .bf16⟩
  | .local _ .vmem, ⟨12, _⟩ => ⟨S2048x512, .bf16⟩
  | .local _ .vmem, ⟨13, _⟩ => ⟨S2048x512, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .f32⟩
  | .local _ .vmem, ⟨17, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c29_i32 : BitVec 32 := 29#32
  let v0 : BitVec 32 := Scalar.addi c29_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MergeReferenceIdeal.lean ====
abbrev S8192x2048 : Shape := ⟨2, ![8192, 2048]⟩
abbrev S8192x4096 : Shape := ⟨2, ![8192, 4096]⟩
abbrev S8192x16896 : Shape := ⟨2, ![8192, 16896]⟩
abbrev S1x4096x2048 : Shape := ⟨3, ![1, 4096, 2048]⟩
abbrev S1x2048x2048 : Shape := ⟨3, ![1, 2048, 2048]⟩
abbrev S_ : Shape := ⟨0, ![]⟩
abbrev S4096x2048 : Shape := ⟨2, ![4096, 2048]⟩
abbrev S2048x2048 : Shape := ⟨2, ![2048, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .bf16⟩
  | .hbm, ⟨2, _⟩ => ⟨S8192x2048, .bf16⟩
  | .hbm, ⟨3, _⟩ => ⟨S8192x16896, .bf16⟩
  | .hbm, ⟨4, _⟩ => ⟨S1x4096x2048, .f32⟩
  | .hbm, ⟨5, _⟩ => ⟨S1x2048x2048, .f32⟩
  | .hbm, ⟨6, _⟩ => ⟨S1x2048x2048, .f32⟩
  | .hbm, ⟨7, _⟩ => ⟨S8192x2048, .bf16⟩
  | .hbm, ⟨8, _⟩ => ⟨S8192x2048, .f32⟩
  | .hbm, ⟨9, _⟩ => ⟨S8192x2048, .bf16⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x4096, .f32⟩
  | .hbm, ⟨20, _⟩ => ⟨S4096x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S2048x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S2048x2048, .f32⟩
  | .hbm, ⟨37, _⟩ => ⟨S8192x2048, .f32⟩
  | .hbm, ⟨38, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.Sums.lean ====
module

public import Idealize.ShloMosaic.Lib.Pipeline.ValueKit

/-! Sums of extended reals: a running total over the points of a grid, and a finite factor taken out of a sum. -/

@[expose] public section

namespace Cert.Sums

open Finset

/-- A quantity that starts each stretch of `J` points at that stretch's own start value `x` and grows by `term` at every
    point is, after point `n`, the start value plus the terms of the stretch so far. -/
theorem after_stretch {M : Type*} [AddCommMonoid M] {ι : Type*} {N : ℕ} (J : ℕ) (hJ : 0 < J) (f : (n : ℕ) → n < N → ι → M)
    (x : Fin N → ι → M) (term : Fin N → ι → M)
    (h0 : ∀ t : Fin N, t.val % J = 0 → ∀ i, f t.val t.isLt i = x t i + term t i)
    (hs : ∀ t : Fin N, ¬t.val % J = 0 → ∀ i,
      f t.val t.isLt i = f (t.val - 1) (Nat.lt_of_le_of_lt (Nat.sub_le _ _) t.isLt) i + term t i)
    (hx : ∀ t : Fin N, ¬t.val % J = 0 → ∀ i, x ⟨t.val - 1, Nat.lt_of_le_of_lt (Nat.sub_le _ _) t.isLt⟩ i = x t i)
    (n : ℕ) (hn : n < N) (i : ι) :
    f n hn i = x ⟨n, hn⟩ i + ∑ k ∈ range (n % J + 1), if h : J * (n / J) + k < N then term ⟨J * (n / J) + k, h⟩ i else 0 := by
  induction n with
  | zero =>
    rw [h0 ⟨0, hn⟩ (Nat.zero_mod J)]
    simp [hn]
  | succ n ih =>
    have hd := Nat.div_add_mod (n + 1) J
    by_cases h : (n + 1) % J = 0
    · rw [h0 ⟨n + 1, hn⟩ h, h, zero_add, sum_range_one,
        dif_pos (show J * ((n + 1) / J) + 0 < N by omega)]
      have hq : (⟨J * ((n + 1) / J) + 0, by omega⟩ : Fin N) = ⟨n + 1, hn⟩ := Fin.ext (by simp only; omega)
      rw [hq]
    · have e := Nat.succ_mod_succ_eq_zero_iff (a := n) (b := J - 1)
      have hj : J - 1 + 1 = J := by omega
      rw [hj] at e
      have hmod : (n + 1) % J = n % J + 1 := by
        have h1 := Nat.mod_lt n hJ
        have h2 : n % J ≠ J - 1 := fun h' => h (e.2 (by omega))
        rw [Nat.add_mod_eq_ite]
        have : 1 % J = 1 := Nat.mod_eq_of_lt (by omega)
        rw [if_neg (by omega), this]
      have hdiv : (n + 1) / J = n / J := by
        have h1 := Nat.div_add_mod n J
        have : J * ((n + 1) / J) = J * (n / J) := by omega
        exact Nat.eq_of_mul_eq_mul_left hJ this
      rw [hdiv, hmod] at hd
      rw [hs ⟨n + 1, hn⟩ h, hmod, hdiv, sum_range_succ, dif_pos (show J * (n / J) + (n % J + 1) < N by omega), ← add_assoc]
      have hq : (⟨J * (n / J) + (n % J + 1), by omega⟩ : Fin N) = ⟨n + 1, hn⟩ := Fin.ext hd
      have hp := ih (Nat.lt_of_succ_lt hn)
      have hxx := hx ⟨n + 1, hn⟩ h i
      simp only [Nat.add_sub_cancel] at hxx ⊢
      rw [hp, hxx, hq]

/-- … at the last point of the stretch, the terms numbered by the places of the stretch. -/
theorem after_last {M : Type*} [AddCommMonoid M] {ι : Type*} {N : ℕ} (J : ℕ) (hJ : 0 < J) (f : (n : ℕ) → n < N → ι → M)
    (x : Fin N → ι → M) (term : Fin N → ι → M)
    (h0 : ∀ t : Fin N, t.val % J = 0 → ∀ i, f t.val t.isLt i = x t i + term t i)
    (hs : ∀ t : Fin N, ¬t.val % J = 0 → ∀ i,
      f t.val t.isLt i = f (t.val - 1) (Nat.lt_of_le_of_lt (Nat.sub_le _ _) t.isLt) i + term t i)
    (hx : ∀ t : Fin N, ¬t.val % J = 0 → ∀ i, x ⟨t.val - 1, Nat.lt_of_le_of_lt (Nat.sub_le _ _) t.isLt⟩ i = x t i)
    (t : Fin N) (hr : t.val % J = J - 1) (i : ι) :
    f t.val t.isLt i = x t i + ∑ s : Fin J,
      term ⟨J * (t.val / J) + s.val, Idealize.ShloMosaic.Pipeline.run_point_lt_of_flush t hr s⟩ i := by
  rw [after_stretch J hJ f x term h0 hs hx, hr, Nat.sub_add_cancel hJ, Finset.sum_range]
  congr 1
  refine Finset.sum_congr rfl fun s _ => ?_
  rw [dif_pos]

/-- A finite nonnegative factor goes into a sum of extended reals, whatever the terms. -/
theorem mul_sum_of_finite {ι : Type*} (s : Finset ι) {a : EReal} (h0 : 0 ≤ a) (ht : a ≠ ⊤) (f : ι → EReal) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

end Cert.Sums
-- ==== Proof.AttnKernel.lean ====
module

public import proofs.«01_k».proof.Proof.Gen.KernelIdeal.Value
public import proofs.«01_k».proof.Proof.Gen.ReferenceIdeal.Run
public import proofs.«01_k».proof.Proof.Sums
public import Idealize.ShloMosaic.Lib.Pipeline.ValueKit
public import Idealize.ShloMosaic.Lib.Pipeline.ReadBack

/-! What a point of the windowed attention's grid stores, one head beside another. -/

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

variable (m : (ℓ : Loc nD τ sig) → Buf (Elt Ideal) ℓ)

/-- The columns of the keys that head `h` reads lie inside the block. -/
theorem key_cols : ∀ h : Fin 32, S256x256.Slices ![0, 64 * (h.val / 8)] S256x64 := by decide

/-- The columns of the queries of head `h` lie inside the block. -/
theorem query_cols : ∀ h : Fin 32, ∀ a, (![0, 64 * h.val] : Fin 2 → ℕ) a + S128x64.size a ≤ S128x2048.size a := by decide

/-- The sink of head `h` lies inside the table. -/
theorem sink_in : ∀ h : Fin 32, ∀ a, (![h.val] : Fin 1 → ℕ) a + S1.size a ≤ S32.size a := by decide

/-- The rows of two blocks, the first above the second. -/
abbrev stack (a b : FVec Ideal S128x256 .bf16) : FVec Ideal S256x256 .bf16 :=
  concatenate S256x256 0 [⟨S128x256, a⟩, ⟨S128x256, b⟩] concatenates_S128x256_S128x256_S256x256_d0

/-- The keys of head `h`, each row divided by its root mean square, times the gain. -/
def keys (kp kc : FVec Ideal S128x256 .bf16) (kn : FVec Ideal S1x64 .f32) (h : Fin 32) : FVec Ideal S256x64 .bf16 :=
  have k : FVec Ideal S256x64 .f32 := extractStridedSlice S256x64 ![0, 64 * (h.val / 8)]
    (extf .f32 (stack kp kc) bitsLt_bf16_f32) (key_cols h)
  truncf .bf16 (mulf (mulf k (broadcastTo S256x64 (rsqrt (addf (divf (shapeCast S256x1
      (multiReduction .add [1] S256 (mulf k k) 0x00000000#32 reduces_S256x64_S256 (.inl rfl) rfl) shapeCasts_S256_S256x1)
      (broadcast S256x1 (Scalar.ofBits .f32 0x42800000#32))) (broadcast S256x1 (Scalar.ofBits .f32 0x358637BD#32))))
      broadcasts_S256x1_S256x64)) (broadcastTo S256x64 (shapeCast S1x64 kn shapeCasts_S1x64_S1x64) broadcasts_S1x64_S256x64))
    bitsLt_bf16_f32

/-- The queries of head `h`, normalised in the same way and scaled by an eighth. -/
def queries (x1 : FVec Ideal S128x2048 .bf16) (qn : FVec Ideal S1x64 .f32) (h : Fin 32) : FVec Ideal S128x64 .bf16 :=
  have q : FVec Ideal S128x64 .f32 := extf .f32 (View.ld (Val := Elt Ideal) (e' := .bf16) x1 (Rect.unit (s := S128x2048) ![0, 64 * h.val] S128x64.size (query_cols h)))
    bitsLt_bf16_f32
  truncf .bf16 (mulf (mulf (mulf q (broadcastTo S128x64 (rsqrt (addf (divf (shapeCast S128x1
      (multiReduction .add [1] S128 (mulf q q) 0x00000000#32 reduces_S128x64_S128 (.inl rfl) rfl) shapeCasts_S128_S128x1)
      (broadcast S128x1 (Scalar.ofBits .f32 0x42800000#32))) (broadcast S128x1 (Scalar.ofBits .f32 0x358637BD#32))))
      broadcasts_S128x1_S128x64)) (broadcastTo S128x64 (shapeCast S1x64 qn shapeCasts_S1x64_S1x64) broadcasts_S1x64_S128x64))
    (broadcast S128x64 (Scalar.ofBits .f32 0x3E000000#32))) bitsLt_bf16_f32

/-- The masked scores of head `h`. -/
def scores (i : grid0.Coords) (x1 : FVec Ideal S128x2048 .bf16) (kp kc : FVec Ideal S128x256 .bf16)
    (qn kn : FVec Ideal S1x64 .f32) (w : BitVec 32) (h : Fin 32) : FVec Ideal S128x256 .f32 :=
  select (k0_pay4 i) (subf (matmul dot_S128x64_S256x64_S128x256_1_1_0_0_n_n none (queries x1 qn h) (keys kp kc kn h)
      (constant S128x256 .f32 0x00000000#32))
    (mulf (broadcast S128x256 (Scalar.ofBits .f32 w)) (k0_pay5 (F := Ideal))))
    (broadcast S128x256 (Named.named κ "mask" 0xF149F2CA#32))

/-- The largest of a row's scores and the sink. -/
def top (s : FVec Ideal S128x256 .f32) (sink : EReal) : FVec Ideal S128x1 .f32 :=
  maximumf (shapeCast S128x1 (multiReduction .maximumf [1] S128 s 0xFF800000#32 reduces_S128x256_S128 (.inl rfl) rfl)
    shapeCasts_S128_S128x1) (broadcast S128x1 (show Elt Ideal .f32 from sink))

/-- The weighted values of a head, over the sum of the weights and the sink's. -/
def weigh (s : FVec Ideal S128x256 .f32) (sink : EReal) (v : FVec Ideal S256x64 .bf16) : FVec Ideal S128x64 .bf16 :=
  have p : FVec Ideal S128x256 .f32 := exp (subf s (broadcastTo S128x256 (top s sink) broadcasts_S128x1_S128x256))
  truncf .bf16 (divf (matmul dot_S128x256_S256x64_S128x64_1_0_0_1_n_n none (truncf .bf16 p bitsLt_bf16_f32) v
      (constant S128x64 .f32 0x00000000#32))
    (broadcastTo S128x64 (addf (shapeCast S128x1
      (multiReduction .add [1] S128 p 0x00000000#32 reduces_S128x256_S128 (.inl rfl) rfl) shapeCasts_S128_S128x1)
      (exp (subf (broadcast S128x1 (show Elt Ideal .f32 from sink)) (top s sink)))) broadcasts_S128x1_S128x64)) bitsLt_bf16_f32

/-- What one head writes. -/
def head (i : grid0.Coords) (x0 : FVec Ideal S32 .f32) (x1 : FVec Ideal S128x2048 .bf16)
    (kc kp vc vp : FVec Ideal S128x256 .bf16) (qn kn : FVec Ideal S1x64 .f32) (w : BitVec 32) (h : Fin 32) : FVec Ideal S128x64 .bf16 :=
  weigh (scores i x1 kp kc qn kn w h)
    (View.ld (Val := Elt Ideal) (e' := .f32) x0 (Rect.unit (s := S32) ![h.val] S1.size (sink_in h)) (Shape.Idx.first (s := S1) (by decide)))
    (extractStridedSlice S256x64 ![0, 64 * (h.val / 8)] (stack vp vc) (key_cols h))

/-- A block as the body loads it. -/
def loaded (M : Memref sig .tc .vmem S128x256 .bf16) (h : M.IsWhole) (X : FVec Ideal S128x256 .bf16) : FVec Ideal S128x256 .bf16 :=
  View.ld (Val := Elt Ideal) (e' := .bf16) (View.read (Elt Ideal) M.view (h.unread X)) (Rect.unit (s := S128x256) ![0, 0] ![128, 256] (by decide))

/-- The heads' columns beside one another. -/
def heads (i : grid0.Coords) (x0 : FVec Ideal S32 .f32) (x1 : FVec Ideal S128x2048 .bf16)
    (kc kp vc vp : FVec Ideal S128x256 .bf16) (qn kn : FVec Ideal S1x64 .f32) : FVec Ideal S128x2048 .bf16 :=
  fun y => head i x0 x1 kc kp vc vp qn kn (Cert.ReferenceIdeal.lit0 ⟨(y 1).val / 64, Nat.div_lt_of_lt_mul (y 1).isLt⟩)
    ⟨(y 1).val / 64, Nat.div_lt_of_lt_mul (y 1).isLt⟩
    (ix2 (y 0) (⟨(y 1).val % 64, Nat.mod_lt _ (by decide)⟩ : Fin 64))

/-- The columns of head `h` are what that head writes. -/
theorem heads_at (i : grid0.Coords) (x0 : FVec Ideal S32 .f32) (x1 : FVec Ideal S128x2048 .bf16)
    (kc kp vc vp : FVec Ideal S128x256 .bf16) (qn kn : FVec Ideal S1x64 .f32) (h : Fin 32) (x : S128x64.Idx) (y : S128x2048.Idx)
    (h0 : (y 0).val = (x 0).val) (h1 : (y 1).val = 64 * h.val + (x 1).val) :
    heads i x0 x1 kc kp vc vp qn kn y = head i x0 x1 kc kp vc vp qn kn (Cert.ReferenceIdeal.lit0 h) h x := by
  have hx : (x 1).val < 64 := (x 1).isLt
  have hh : (⟨(y 1).val / 64, Nat.div_lt_of_lt_mul (y 1).isLt⟩ : Fin 32) = h := Fin.ext (by show (y 1).val / 64 = h.val; omega)
  unfold heads
  rw [hh]
  congr 1
  funext a
  match a with
  | ⟨0, _⟩ => exact Fin.ext h0
  | ⟨1, _⟩ => exact Fin.ext (by show (y 1).val % 64 = (x 1).val; omega)

/-- The slopes' words, in the heads' order. -/
def words : List (BitVec 32) :=
  [0x3F5744FD#32, 0x3F3504F3#32, 0x3F1837F0#32, 0x3F000000#32, 0x3ED744FD#32, 0x3EB504F3#32, 0x3E9837F0#32, 0x3E800000#32, 0x3E5744FD#32, 0x3E3504F3#32, 0x3E1837F0#32, 0x3E000000#32, 0x3DD744FD#32, 0x3DB504F3#32, 0x3D9837F0#32, 0x3D800000#32, 0x3D5744FD#32, 0x3D3504F3#32, 0x3D1837F0#32, 0x3D000000#32, 0x3CD744FD#32, 0x3CB504F3#32, 0x3C9837F0#32, 0x3C800000#32, 0x3C5744FD#32, 0x3C3504F3#32, 0x3C1837F0#32, 0x3C000000#32, 0x3BD744FD#32, 0x3BB504F3#32, 0x3B9837F0#32, 0x3B800000#32]

/-- They are the reference's table. -/
theorem words_eq : ∀ h : Fin 32, Cert.ReferenceIdeal.lit0 h = words.getD h.val 0#32 := by decide

/-- `heads_at` at a literal offset and with the slope's word. -/
theorem heads_off (off : ℕ) (i : grid0.Coords) (x0 : FVec Ideal S32 .f32) (x1 : FVec Ideal S128x2048 .bf16)
    (kc kp vc vp : FVec Ideal S128x256 .bf16) (qn kn : FVec Ideal S1x64 .f32) (x : S128x64.Idx) (y : S128x2048.Idx)
    (f : FVec Ideal S128x64 .bf16) (h0 : (y 0).val = (x 0).val) (h1 : (y 1).val = off + (x 1).val) (hd : off % 64 = 0) (hl : off / 64 < 32)
    (hf : f = head i x0 x1 kc kp vc vp qn kn (words.getD (off / 64) 0#32) ⟨off / 64, hl⟩) :
    f x = heads i x0 x1 kc kp vc vp qn kn y := by
  rw [hf, ← words_eq ⟨off / 64, hl⟩]
  exact (heads_at i x0 x1 kc kp vc vp qn kn ⟨off / 64, hl⟩ x y h0 (by show _ = 64 * (off / 64) + _; omega)).symm

/-- The whole of the block is loaded. -/
theorem loaded_eq (M : Memref sig .tc .vmem S128x256 .bf16) (h : M.IsWhole) (X : FVec Ideal S128x256 .bf16) : loaded M h X = X := by
  unfold loaded
  rw [h.read_unread]
  exact View.ld_unit_lit _ _ (by decide)

set_option maxHeartbeats 4000000 in
/-- What a point of the grid stores: every head's columns. -/
theorem outsAt_eq (c : Dev nD) (t : Fin cfg0.N) : outsAt0 m c t = heads (grid0.coords t) (iblk m c 0 t) (X0_1 m c t) (iblk m c 2 t)
   (iblk m c 3 t) (iblk m c 4 t) (iblk m c 5 t) (iblk m c 6 t) (iblk m c 7 t) := by
  unfold outsAt0
  funext y
  have e : heads (grid0.coords t) (iblk m c 0 t) (X0_1 m c t) (loaded (ms0_2 t) (hs0_2 t) (iblk m c 2 t))
      (loaded (ms0_3 t) (hs0_3 t) (iblk m c 3 t)) (loaded (ms0_4 t) (hs0_4 t) (iblk m c 4 t))
      (loaded (ms0_5 t) (hs0_5 t) (iblk m c 5 t)) (iblk m c 6 t) (iblk m c 7 t) y
      = heads (grid0.coords t) (iblk m c 0 t) (X0_1 m c t) (iblk m c 2 t)
   (iblk m c 3 t) (iblk m c 4 t) (iblk m c 5 t) (iblk m c 6 t) (iblk m c 7 t) y := by
    rw [loaded_eq, loaded_eq, loaded_eq, loaded_eq]
  refine Eq.trans ?_ e
  frame_out
  canon_tiles x h
  all_goals
    first
    | refine heads_off _ _ _ _ _ _ _ _ _ _ x y _ h0 h1 (by decide) (by decide) ?_
    | refine heads_off 0 _ _ _ _ _ _ _ _ _ x y _ h0 (h1.trans (Nat.zero_add _).symm) (by decide) (by decide) ?_
    open_payloads
    simp only [head, weigh, scores, keys, queries, top, loaded, k0_pay3, k0_pay4, k0_pay5, words, List.getD_cons_succ,
      List.getD_cons_zero, Nat.reduceDiv, Nat.reduceMul]

end Cert.KernelIdeal.Attn
-- ==== Proof.AttnReference.lean ====
module

public import proofs.«01_k».proof.Proof.Gen.ReferenceIdeal.Run
public import proofs.«01_k».proof.Proof.Sums
public import Idealize.ShloMosaic.Lib.Pipeline.ValueKit

/-! The windowed attention as the reference writes it, in stages, each read at an index. -/

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen

/-- One entry of a row divided by its root mean square, times a gain. -/
def normed (x : Fin 64 → EReal) (g : EReal) (d : Fin 64) : EReal :=
  x d * Ideal.rsqrt (Ideal.div (∑ e, x e * x e) (Ideal.ofBits .f32 0x42800000#32) + Ideal.ofBits .f32 0x358637BD#32) * g

/-- The values. -/
def values (p : FVec Ideal S8192x16896 .bf16) : FVec Ideal S4x2048x4x64 .f32 :=
  shapeCast _ (extf .f32 (extractStridedSlice S8192x256 ![0, 12544] p slices_S8192x16896_S8192x256_0_12544) bitsLt_bf16_f32)
    shapeCasts_S8192x256_S4x2048x4x64

theorem values_at (p : FVec Ideal S8192x16896 .bf16) (b : Fin 4) (t : Fin 2048) (k : Fin 4) (d : Fin 64) :
    values p (ix4 b t k d) = p (ix2 ⟨b.val * 2048 + t.val, by omega⟩ ⟨12544 + (k.val * 64 + d.val), by omega⟩) := by
  pointwise [values]

/-- The keys, normalised. -/
def keys (p : FVec Ideal S8192x16896 .bf16) (kn : FVec Ideal S1x64 .f32) : FVec Ideal S4x2048x4x64 .f32 :=
  have k : FVec Ideal S4x2048x4x64 .f32 := shapeCast _ (extf .f32 (extractStridedSlice S8192x256 ![0, 12288] p slices_S8192x16896_S8192x256_0_12288) bitsLt_bf16_f32)
    shapeCasts_S8192x256_S4x2048x4x64
  mulf (mulf k (broadcastInDim S4x2048x4x64 ![0, 1, 2, 3] bcast_S4x2048x4x1_S4x2048x4x64_0_1_2_3 (Host.rsqrt (addf (Host.divf
      (broadcastInDim S4x2048x4x1 ![0, 1, 2] bcast_S4x2048x4_S4x2048x4x1_0_1_2
        (Host.reduceAdd (mulf k k) (constant S_ .f32 0x00000000#32) reducesTo_S4x2048x4x64_S4x2048x4_d3 h_S_))
      (broadcastInDim S4x2048x4x1 ![] bcast_S_S4x2048x4x1 (constant S_ .f32 0x42800000#32)))
      (broadcastInDim S4x2048x4x1 ![] bcast_S_S4x2048x4x1 (constant S_ .f32 0x358637BD#32))))))
    (broadcastInDim S4x2048x4x64 ![0, 1, 2, 3] bcast_S1x1x1x64_S4x2048x4x64_0_1_2_3
      (broadcastInDim S1x1x1x64 ![3] bcast_S64_S1x1x1x64_3 (shapeCast _ kn shapeCasts_S1x64_S64)))

theorem keys_at (p : FVec Ideal S8192x16896 .bf16) (kn : FVec Ideal S1x64 .f32) (b : Fin 4) (t : Fin 2048) (k : Fin 4) (d : Fin 64) :
    keys p kn (ix4 b t k d) = normed (fun e => p (ix2 ⟨b.val * 2048 + t.val, by omega⟩ ⟨12288 + (k.val * 64 + e.val), by omega⟩))
      (kn (ix2 0 d)) d := by
  pointwise [keys, normed]

/-- The queries, normalised, by block. -/
def queries (p : FVec Ideal S8192x16896 .bf16) (qn : FVec Ideal S1x64 .f32) : FVec Ideal S4x16x128x4x8x64 .f32 :=
  have q : FVec Ideal S4x2048x4x8x64 .f32 := shapeCast _ (extf .f32 (extractStridedSlice S8192x2048 ![0, 10240] p slices_S8192x16896_S8192x2048_0_10240) bitsLt_bf16_f32)
    shapeCasts_S8192x2048_S4x2048x4x8x64
  shapeCast _ (mulf (mulf q (broadcastInDim S4x2048x4x8x64 ![0, 1, 2, 3, 4] bcast_S4x2048x4x8x1_S4x2048x4x8x64_0_1_2_3_4 (Host.rsqrt (addf (Host.divf
      (broadcastInDim S4x2048x4x8x1 ![0, 1, 2, 3] bcast_S4x2048x4x8_S4x2048x4x8x1_0_1_2_3
        (Host.reduceAdd (mulf q q) (constant S_ .f32 0x00000000#32) reducesTo_S4x2048x4x8x64_S4x2048x4x8_d4 h_S_))
      (broadcastInDim S4x2048x4x8x1 ![] bcast_S_S4x2048x4x8x1 (constant S_ .f32 0x42800000#32)))
      (broadcastInDim S4x2048x4x8x1 ![] bcast_S_S4x2048x4x8x1 (constant S_ .f32 0x358637BD#32))))))
    (broadcastInDim S4x2048x4x8x64 ![0, 1, 2, 3, 4] bcast_S1x1x1x1x64_S4x2048x4x8x64_0_1_2_3_4
      (broadcastInDim S1x1x1x1x64 ![4] bcast_S64_S1x1x1x1x64_4 (shapeCast _ qn shapeCasts_S1x64_S64)))) shapeCasts_S4x2048x4x8x64_S4x16x128x4x8x64

theorem queries_at (p : FVec Ideal S8192x16896 .bf16) (qn : FVec Ideal S1x64 .f32) (b : Fin 4) (n : Fin 16) (r : Fin 128) (k : Fin 4)
    (g : Fin 8) (d : Fin 64) :
    queries p qn (ix6 b n r k g d) = normed (fun e => p (ix2 ⟨b.val * 2048 + (n.val * 128 + r.val), by omega⟩
      ⟨10240 + (k.val * 512 + g.val * 64 + e.val), by omega⟩)) (qn (ix2 0 d)) d := by
  pointwise [queries, normed]

/-- Each block of rows under the block before it, zeros before the first. -/
def band (z : FVec Ideal S4x2048x4x64 .f32) : FVec Ideal S4x16x256x4x64 .f32 :=
  have w : FVec Ideal S4x17x128x4x64 .f32 := shapeCast _ (pad S4x2176x4x64 ![0, 128, 0, 0] ![0, 0, 0, 0] ![0, 0, 0, 0] z (sitofp .f32 (constantI S_ 32 0#32))
    pads_S4x2048x4x64_S4x2176x4x64_000_12800_000_000 h_S_) shapeCasts_S4x2176x4x64_S4x17x128x4x64
  concatenate S4x16x256x4x64 2
    [⟨S4x16x128x4x64, extractStridedSlice S4x16x128x4x64 ![0, 0, 0, 0, 0] w slices_S4x17x128x4x64_S4x16x128x4x64_0_0_0_0_0⟩,
     ⟨S4x16x128x4x64, extractStridedSlice S4x16x128x4x64 ![0, 1, 0, 0, 0] w slices_S4x17x128x4x64_S4x16x128x4x64_0_1_0_0_0⟩]
    concatenates_S4x16x128x4x64_S4x16x128x4x64_S4x16x256x4x64_d2

theorem band_at (z : FVec Ideal S4x2048x4x64 .f32) (b : Fin 4) (n : Fin 16) (s : Fin 256) (k : Fin 4) (d : Fin 64) :
    band z (ix5 b n s k d) = if h : 128 ≤ n.val * 128 + s.val then z (ix4 b ⟨n.val * 128 + s.val - 128, by omega⟩ k d) else 0 := by
  pointwise [band]
  have z0 : FloatOps.sitofp (F := Ideal) FTy.f32 0#32 = (0 : EReal) := by simp [FloatOps.sitofp]
  by_cases hs : s.val < 128
  · rw [dif_pos hs]
    by_cases h : 128 ≤ n.val * 128 + s.val
    · rw [dif_pos h, dif_pos ⟨h, by omega⟩]
    · rw [dif_neg h, dif_neg (fun hh => h hh.1)]
      exact z0
  · have h : 128 ≤ n.val * 128 + s.val ∧ n.val * 128 + s.val - 128 < 2048 := by omega
    have e : (1 + n.val) * 128 + (s.val - 128) = n.val * 128 + s.val := by omega
    simp only [e]
    rw [dif_neg hs, dif_pos h, dif_pos h.1]

/-- How far each key of a block lies before each query, by the words the program computes. -/
def dist : IVec S128x256 32 :=
  subi (broadcastInDim S128x256 ![0, 1] bcast_S128x1_S128x256_0_1
      (addi (broadcastInDim S128x1 ![0] bcast_S128_S128x1_0 (iotaInDim S128 32 0)) (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

/-- Which keys each query sees. -/
def mask : IVec S4x16x4x8x128x256 1 :=
  broadcastInDim S4x16x4x8x128x256 ![0, 1, 2, 3, 4, 5] bcast_S1x16x1x1x128x256_S4x16x4x8x128x256_0_1_2_3_4_5
    (broadcastInDim S1x16x1x1x128x256 ![1, 4, 5] bcast_S16x128x256_S1x16x1x1x128x256_1_4_5 (andi
      (broadcastInDim S16x128x256 ![0, 1, 2] bcast_S1x128x256_S16x128x256_0_1_2 (broadcastInDim S1x128x256 ![1, 2] bcast_S128x256_S1x128x256_1_2
        (andi (cmpi .sge dist (broadcastInDim S128x256 ![] bcast_S_S128x256 (constantI S_ 32 0#32)))
          (cmpi .slt dist (broadcastInDim S128x256 ![] bcast_S_S128x256 (constantI S_ 32 128#32))))))
      (broadcastInDim S16x128x256 ![0, 1, 2] bcast_S16x1x256_S16x128x256_0_1_2 (cmpi .sge
        (addi (broadcastInDim S16x1x256 ![0, 1, 2] bcast_S16x1x1_S16x1x256_0_1_2 (subi
            (muli (broadcastInDim S16x1x1 ![0] bcast_S16_S16x1x1_0 (iotaInDim S16 32 0)) (broadcastInDim S16x1x1 ![] bcast_S_S16x1x1 (constantI S_ 32 128#32)))
            (broadcastInDim S16x1x1 ![] bcast_S_S16x1x1 (constantI S_ 32 128#32))))
          (broadcastInDim S16x1x256 ![0, 1, 2] bcast_S1x1x256_S16x1x256_0_1_2 (broadcastInDim S1x1x256 ![2] bcast_S256_S1x1x256_2 (iotaInDim S256 32 0))))
        (broadcastInDim S16x1x256 ![] bcast_S_S16x1x256 (constantI S_ 32 0#32))))))

theorem mask_at (b : Fin 4) (n : Fin 16) (k : Fin 4) (g : Fin 8) (r : Fin 128) (s : Fin 256) :
    mask (ix6 b n k g r s) = IntOp.andi
      (IntOp.andi (IntOp.cmpi .sge (dist (ix2 r s)) 0#32) (IntOp.cmpi .slt (dist (ix2 r s)) 128#32))
      (IntOp.cmpi .sge (IntOp.addi (IntOp.subi (IntOp.muli (BitVec.ofNat 32 n.val) 128#32) 128#32) (BitVec.ofNat 32 s.val)) 0#32) := by
  pointwise [mask]

/-- The products of the queries with the keys of their band. -/
def products (q : FVec Ideal S4x16x128x4x8x64 .f32) (kb : FVec Ideal S4x16x256x4x64 .f32) : FVec Ideal S4x16x4x8x128x256 .f32 :=
  mulf (transpose S4x16x4x8x128x256 [0, 1, 2, 5, 4, 3] (Host.dotGeneral dot_S4x16x256x4x64_S4x16x128x4x8x64_S4x16x4x256x128x8_4_5_2_24_013_013 none kb q)
    transposes_S4x16x4x256x128x8_S4x16x4x8x128x256_0_1_2_5_4_3)
    (broadcastInDim S4x16x4x8x128x256 ![] bcast_S_S4x16x4x8x128x256 (constant S_ .f32 0x3E000000#32))

theorem products_at (q : FVec Ideal S4x16x128x4x8x64 .f32) (kb : FVec Ideal S4x16x256x4x64 .f32)
    (b : Fin 4) (n : Fin 16) (k : Fin 4) (g : Fin 8) (r : Fin 128) (s : Fin 256) :
    products q kb (ix6 b n k g r s) = (∑ d : Fin 64, kb (ix5 b n s k d) * q (ix6 b n r k g d)) * Ideal.ofBits .f32 0x3E000000#32 := by
  pointwise [products]

/-- Each head's slope times the distance. -/
def slopes : FVec Ideal S4x16x4x8x128x256 .f32 :=
  broadcastInDim S4x16x4x8x128x256 ![0, 1, 2, 3, 4, 5] bcast_S1x1x4x8x128x256_S4x16x4x8x128x256_0_1_2_3_4_5
    (broadcastInDim S1x1x4x8x128x256 ![2, 3, 4, 5] bcast_S4x8x128x256_S1x1x4x8x128x256_2_3_4_5 (mulf
      (broadcastInDim S4x8x128x256 ![0, 1, 2, 3] bcast_S4x8x1x1_S4x8x128x256_0_1_2_3 (broadcastInDim S4x8x1x1 ![0, 1] bcast_S4x8_S4x8x1x1_0_1
        (shapeCast _ ((fun i => FloatOps.ofBits .f32 (lit0 (S32.rowMajor i))) : FVec Ideal S32 .f32) shapeCasts_S32_S4x8)))
      (broadcastInDim S4x8x128x256 ![0, 1, 2, 3] bcast_S1x1x128x256_S4x8x128x256_0_1_2_3
        (broadcastInDim S1x1x128x256 ![2, 3] bcast_S128x256_S1x1x128x256_2_3 (sitofp .f32 dist)))))

theorem slopes_at (b : Fin 4) (n : Fin 16) (k : Fin 4) (g : Fin 8) (r : Fin 128) (s : Fin 256) :
    slopes (ix6 b n k g r s) = Ideal.ofBits .f32 (lit0 ⟨k.val * 8 + g.val, by omega⟩) * FloatOps.sitofp FTy.f32 (dist (ix2 r s)) := by
  have e : S32.rowMajor (ix1 (⟨k.val * 8 + g.val, by omega⟩ : Fin 32)) = (⟨k.val * 8 + g.val, by omega⟩ : Fin 32) :=
    Fin.ext (Shape.rowMajor_val_one _)
  pointwise [slopes]
  rw [e]

/-- The scores: minus infinity where a key is not seen. -/
def scores (q : FVec Ideal S4x16x128x4x8x64 .f32) (kb : FVec Ideal S4x16x256x4x64 .f32) : FVec Ideal S4x16x4x8x128x256 .f32 :=
  select mask (subf (products q kb) slopes) (broadcastInDim S4x16x4x8x128x256 ![] bcast_S_S4x16x4x8x128x256 (id (constant S_ .f32 0xFF800000#32)))

/-- The sinks by head. -/
def sinksOf (sk : FVec Ideal S1x32 .f32) : FVec Ideal S4x16x4x8x128 .f32 :=
  broadcastInDim S4x16x4x8x128 ![0, 1, 2, 3, 4] bcast_S1x1x4x8x1_S4x16x4x8x128_0_1_2_3_4 (broadcastInDim S1x1x4x8x1 ![2, 3] bcast_S4x8_S1x1x4x8x1_2_3
    (shapeCast _ (shapeCast _ sk shapeCasts_S1x32_S32) shapeCasts_S32_S4x8))

theorem sinksOf_at (sk : FVec Ideal S1x32 .f32) (b : Fin 4) (n : Fin 16) (k : Fin 4) (g : Fin 8) (r : Fin 128) :
    sinksOf sk (ix5 b n k g r) = sk (ix2 0 ⟨k.val * 8 + g.val, by omega⟩) := by
  pointwise [sinksOf]

/-- The largest of each row's scores and its sink. -/
def tops (sc : FVec Ideal S4x16x4x8x128x256 .f32) (sk : FVec Ideal S4x16x4x8x128 .f32) : FVec Ideal S4x16x4x8x128 .f32 :=
  maximumf (Host.reduce FloatOps.maximumf sc (constant S_ .f32 0xFF800000#32) reducesTo_S4x16x4x8x128x256_S4x16x4x8x128_d5 h_S_) sk

/-- The exponentials of the scores above the largest. -/
def weights (sc : FVec Ideal S4x16x4x8x128x256 .f32) (tp : FVec Ideal S4x16x4x8x128 .f32) : FVec Ideal S4x16x4x8x128x256 .f32 :=
  Host.exp (subf sc (broadcastInDim S4x16x4x8x128x256 ![0, 1, 2, 3, 4, 5] bcast_S4x16x4x8x128x1_S4x16x4x8x128x256_0_1_2_3_4_5
    (broadcastInDim S4x16x4x8x128x1 ![0, 1, 2, 3, 4] bcast_S4x16x4x8x128_S4x16x4x8x128x1_0_1_2_3_4 tp)))

/-- The values weighted by the softmax with its sink. -/
def weighed (sc : FVec Ideal S4x16x4x8x128x256 .f32) (sk : FVec Ideal S4x16x4x8x128 .f32) (vb : FVec Ideal S4x16x256x4x64 .f32) :
    FVec Ideal S8192x2048 .bf16 :=
  truncf .bf16 (shapeCast _ (transpose S4x16x128x4x8x64 [0, 1, 5, 2, 4, 3]
    (Host.dotGeneral dot_S4x16x256x4x64_S4x16x4x8x128x256_S4x16x4x64x8x128_2_5_4_34_013_012 none vb
      (Host.divf (weights sc (tops sc sk)) (broadcastInDim S4x16x4x8x128x256 ![0, 1, 2, 3, 4, 5] bcast_S4x16x4x8x128x1_S4x16x4x8x128x256_0_1_2_3_4_5
        (broadcastInDim S4x16x4x8x128x1 ![0, 1, 2, 3, 4] bcast_S4x16x4x8x128_S4x16x4x8x128x1_0_1_2_3_4
          (addf (Host.reduceAdd (weights sc (tops sc sk)) (constant S_ .f32 0x00000000#32) reducesTo_S4x16x4x8x128x256_S4x16x4x8x128_d5 h_S_)
            (Host.exp (subf sk (tops sc sk))))))))
    transposes_S4x16x4x64x8x128_S4x16x128x4x8x64_0_1_5_2_4_3) shapeCasts_S4x16x128x4x8x64_S8192x2048) bitsLt_bf16_f32

/-- The reference's result as a function of its arguments. -/
def result (p : FVec Ideal S8192x16896 .bf16) (sk : FVec Ideal S1x32 .f32) (qn kn : FVec Ideal S1x64 .f32) : FVec Ideal S8192x2048 .bf16 :=
  weighed (scores (queries p qn) (band (keys p kn))) (sinksOf sk) (band (values p))

theorem lasts : S4x16x4x8x128x256.Reduces [5] S4x16x4x8x128 := by decide

theorem lift_at (b : Fin 4) (n : Fin 16) (k : Fin 4) (g : Fin 8) (r : Fin 128) (s : Fin 256) :
    lasts.lift (ix5 b n k g r) s = (ix6 b n k g r s : S4x16x4x8x128x256.Idx) := by
  funext a
  match a with
  | ⟨0, _⟩ => rfl
  | ⟨1, _⟩ => rfl
  | ⟨2, _⟩ => rfl
  | ⟨3, _⟩ => rfl
  | ⟨4, _⟩ => rfl
  | ⟨5, _⟩ => rfl

theorem sums_at (x : S4x16x4x8x128x256.Idx → EReal) (z : EReal) (b : Fin 4) (n : Fin 16) (k : Fin 4) (g : Fin 8) (r : Fin 128) :
    Ideal.hostReduceAdd reducesTo_S4x16x4x8x128x256_S4x16x4x8x128_d5 x z (ix5 b n k g r) = z + ∑ s : Fin 256, x (ix6 b n k g r s) := by
  rw [Ideal.hostReduceAdd_single _ lasts]
  exact congrArg (z + ·) (Finset.sum_congr rfl fun s _ => congrArg x (lift_at b n k g r s))

theorem fold_cast {m n : ℕ} (h : m = n) (z : EReal) (f : Fin n → EReal) :
    (Finset.univ.fold max z fun k : Fin m => f (Fin.cast h k)) = Finset.univ.fold max z f := by
  subst h
  rfl

theorem maxes_at (x : S4x16x4x8x128x256.Idx → EReal) (z : S_.Idx → EReal)
    (b : Fin 4) (n : Fin 16) (k : Fin 4) (g : Fin 8) (r : Fin 128) :
    Host.reduce (max : EReal → EReal → EReal) x z reducesTo_S4x16x4x8x128x256_S4x16x4x8x128_d5 h_S_ (ix5 b n k g r)
      = Finset.univ.fold max (z (Shape.Idx.first h_S_)) fun s : Fin 256 => x (ix6 b n k g r s) := by
  have e2 : (x ∘ lasts.lift (ix5 b n k g r)) = fun s : Fin (S4x16x4x8x128x256.size 5) => x (ix6 b n k g r (Fin.cast rfl s)) :=
    funext fun s => congrArg x (lift_at b n k g r s)
  have e1 := Host.reduce_eq_fold_single (max : EReal → EReal → EReal) x z reducesTo_S4x16x4x8x128x256_S4x16x4x8x128_d5 lasts h_S_
    (ix5 b n k g r)
  rw [e2] at e1
  exact e1.trans (fold_cast (m := S4x16x4x8x128x256.size 5) rfl (z (Shape.Idx.first h_S_)) fun s : Fin 256 => x (ix6 b n k g r s))

theorem max_at (a b : FVec Ideal S4x16x4x8x128 .f32) (i : S4x16x4x8x128.Idx) : maximumf a b i = max (a i : EReal) (b i) := rfl

theorem bottom (h : 0 < S_.numel) : (constant (F := Ideal) S_ .f32 0xFF800000#32) (Shape.Idx.first h) = Ideal.ofBits .f32 0xFF800000#32 := rfl

theorem tops_at (sc : FVec Ideal S4x16x4x8x128x256 .f32) (sk : FVec Ideal S4x16x4x8x128 .f32)
    (b : Fin 4) (n : Fin 16) (k : Fin 4) (g : Fin 8) (r : Fin 128) :
    tops sc sk (ix5 b n k g r) = max (Finset.univ.fold max (Ideal.ofBits .f32 0xFF800000#32) fun s : Fin 256 => sc (ix6 b n k g r s))
      (sk (ix5 b n k g r)) := by
  have e := maxes_at sc (constant (F := Ideal) S_ .f32 0xFF800000#32) b n k g r
  unfold tops
  rw [Ideal.maximumf_eq_max, max_at, e, bottom]

theorem weights_at (sc : FVec Ideal S4x16x4x8x128x256 .f32) (tp : FVec Ideal S4x16x4x8x128 .f32)
    (b : Fin 4) (n : Fin 16) (k : Fin 4) (g : Fin 8) (r : Fin 128) (s : Fin 256) :
    weights sc tp (ix6 b n k g r s) = Ideal.exp (sc (ix6 b n k g r s) - tp (ix5 b n k g r)) := by
  pointwise [weights]

/-- The softmax with a sink of a row of scores, over a row of values. -/
def soft (sc : Fin 256 → EReal) (sink : EReal) (v : Fin 256 → EReal) : EReal :=
  ∑ s, v s * Ideal.div (Ideal.exp (sc s - max (Finset.univ.fold max (Ideal.ofBits .f32 0xFF800000#32) sc) sink))
    (∑ s, Ideal.exp (sc s - max (Finset.univ.fold max (Ideal.ofBits .f32 0xFF800000#32) sc) sink)
      + Ideal.exp (sink - max (Finset.univ.fold max (Ideal.ofBits .f32 0xFF800000#32) sc) sink))

theorem weighed_at (sc : FVec Ideal S4x16x4x8x128x256 .f32) (sk : FVec Ideal S4x16x4x8x128 .f32) (vb : FVec Ideal S4x16x256x4x64 .f32)
    (i : Fin 8192) (j : Fin 2048) :
    weighed sc sk vb (ix2 i j) = soft
      (fun s => sc (ix6 ⟨i.val / 2048, by omega⟩ ⟨i.val / 128 % 16, by omega⟩ ⟨j.val / 512, by omega⟩ ⟨j.val / 64 % 8, by omega⟩ ⟨i.val % 128, by omega⟩ s))
      (sk (ix5 ⟨i.val / 2048, by omega⟩ ⟨i.val / 128 % 16, by omega⟩ ⟨j.val / 512, by omega⟩ ⟨j.val / 64 % 8, by omega⟩ ⟨i.val % 128, by omega⟩))
      (fun s => vb (ix5 ⟨i.val / 2048, by omega⟩ ⟨i.val / 128 % 16, by omega⟩ s ⟨j.val / 512, by omega⟩ ⟨j.val % 64, by omega⟩)) := by
  pointwise [weighed]
  simp only [weights_at, sums_at, zero_add, tops_at, soft]

/-- One score. -/
def score (n : Fin 16) (h : Fin 32) (r : Fin 128) (s : Fin 256) (dot : EReal) : EReal :=
  if IntOp.andi (IntOp.andi (IntOp.cmpi .sge (dist (ix2 r s)) 0#32) (IntOp.cmpi .slt (dist (ix2 r s)) 128#32))
      (IntOp.cmpi .sge (IntOp.addi (IntOp.subi (IntOp.muli (BitVec.ofNat 32 n.val) 128#32) 128#32) (BitVec.ofNat 32 s.val)) 0#32) = 1#1
  then dot * Ideal.ofBits .f32 0x3E000000#32 - Ideal.ofBits .f32 (lit0 h) * FloatOps.sitofp (F := Ideal) FTy.f32 (dist (ix2 r s))
  else Ideal.ofBits .f32 0xFF800000#32

theorem scores_at (q : FVec Ideal S4x16x128x4x8x64 .f32) (kb : FVec Ideal S4x16x256x4x64 .f32)
    (b : Fin 4) (n : Fin 16) (k : Fin 4) (g : Fin 8) (r : Fin 128) (s : Fin 256) :
    scores q kb (ix6 b n k g r s) = score n ⟨k.val * 8 + g.val, by omega⟩ r s (∑ d : Fin 64, kb (ix5 b n s k d) * q (ix6 b n r k g d)) := by
  pointwise [scores, score, mask_at, products_at, slopes_at]
  rfl

/-- The run's result is the stages, one after the other. -/
theorem run_eq (m : (ℓ : Loc nD τ sig) → Buf (Elt Ideal) ℓ) (c : Dev nD) :
    Value.res_main_v116 m c = result (m ((c.tc : Thread nD τ).loc main_arg0)) (m ((c.tc : Thread nD τ).loc main_arg1))
      (m ((c.tc : Thread nD τ).loc main_arg2)) (m ((c.tc : Thread nD τ).loc main_arg3)) := by
  rfl

/-- The rows and columns spelled by batch, block, head and place. -/
theorem weighed_place (sc : FVec Ideal S4x16x4x8x128x256 .f32) (sk : FVec Ideal S4x16x4x8x128 .f32) (vb : FVec Ideal S4x16x256x4x64 .f32)
    (b : Fin 4) (n : Fin 16) (r : Fin 128) (h : Fin 32) (d : Fin 64) :
    weighed sc sk vb (ix2 ⟨b.val * 2048 + (n.val * 128 + r.val), by omega⟩ ⟨64 * h.val + d.val, by omega⟩) = soft
      (fun s => sc (ix6 b n ⟨h.val / 8, by omega⟩ ⟨h.val % 8, by omega⟩ r s)) (sk (ix5 b n ⟨h.val / 8, by omega⟩ ⟨h.val % 8, by omega⟩ r))
      (fun s => vb (ix5 b n s ⟨h.val / 8, by omega⟩ d)) := by
  rw [weighed_at]
  have e1 : (⟨(b.val * 2048 + (n.val * 128 + r.val)) / 2048, by omega⟩ : Fin 4) = b := Fin.ext (by simp only; omega)
  have e2 : (⟨(b.val * 2048 + (n.val * 128 + r.val)) / 128 % 16, by omega⟩ : Fin 16) = n := Fin.ext (by simp only; omega)
  have e3 : (⟨(b.val * 2048 + (n.val * 128 + r.val)) % 128, by omega⟩ : Fin 128) = r := Fin.ext (by simp only; omega)
  have e4 : (⟨(64 * h.val + d.val) / 512, by omega⟩ : Fin 4) = ⟨h.val / 8, by omega⟩ := Fin.ext (by simp only; omega)
  have e5 : (⟨(64 * h.val + d.val) / 64 % 8, by omega⟩ : Fin 8) = ⟨h.val % 8, by omega⟩ := Fin.ext (by simp only; omega)
  have e6 : (⟨(64 * h.val + d.val) % 64, by omega⟩ : Fin 64) = d := Fin.ext (by simp only; omega)
  simp only [e1, e2, e3, e4, e5, e6]

/-- The reference's result at a place. -/
theorem result_place (p : FVec Ideal S8192x16896 .bf16) (sk : FVec Ideal S1x32 .f32) (qn kn : FVec Ideal S1x64 .f32)
    (b : Fin 4) (n : Fin 16) (r : Fin 128) (h : Fin 32) (d : Fin 64) :
    result p sk qn kn (ix2 ⟨b.val * 2048 + (n.val * 128 + r.val), by omega⟩ ⟨64 * h.val + d.val, by omega⟩) = soft
      (fun s => score n h r s (∑ d : Fin 64, (if hs : 128 ≤ n.val * 128 + s.val then
          normed (fun e => p (ix2 ⟨b.val * 2048 + (n.val * 128 + s.val - 128), by omega⟩ ⟨12288 + (h.val / 8 * 64 + e.val), by omega⟩)) (kn (ix2 0 d)) d
        else 0) * normed (fun e => p (ix2 ⟨b.val * 2048 + (n.val * 128 + r.val), by omega⟩ ⟨10240 + (h.val / 8 * 512 + h.val % 8 * 64 + e.val), by omega⟩))
          (qn (ix2 0 d)) d))
      (sk (ix2 0 h))
      (fun s => if hs : 128 ≤ n.val * 128 + s.val then
        p (ix2 ⟨b.val * 2048 + (n.val * 128 + s.val - 128), by omega⟩ ⟨12544 + (h.val / 8 * 64 + d.val), by omega⟩) else 0) := by
  have e : (⟨h.val / 8 * 8 + h.val % 8, by omega⟩ : Fin 32) = h := Fin.ext (by simp only; omega)
  simp only [result, weighed_place, scores_at, band_at, queries_at, keys_at, values_at, sinksOf_at, e]

end Cert.ReferenceIdeal.Attn
-- ==== Proof.Softmax.lean ====
module

public import proofs.«01_k».proof.Proof.AttnReference

/-! Where no score and no sink is plus infinity and some score is a number, dividing the weighted sum by the sum of the weights is
    weighting by the quotients. -/

@[expose] public section

noncomputable section

open Idealize.ShloMosaic
open Cert.ReferenceIdeal.Attn (normed soft)

namespace Cert.Softmax

theorem lowest : Ideal.ofBits .f32 0xFF800000#32 = ⊥ := by simp [Ideal.ofBits, Ideal.ieee]

theorem width : Ideal.ofBits .f32 0x42800000#32 = ((64 : ℝ) : EReal) := by
  simp [Ideal.ofBits, Ideal.ieee, -EReal.coe_mul]; norm_num

theorem eighth : Ideal.ofBits .f32 0x3E000000#32 = ((1 / 8 : ℝ) : EReal) := by
  simp [Ideal.ofBits, Ideal.ieee, -EReal.coe_mul]; norm_num

theorem small : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- The sum of finite terms is finite. -/
theorem sum_coe {n : ℕ} (f : Fin n → ℝ) : (∑ i, (f i : EReal)) = ((∑ i, f i : ℝ) : EReal) :=
  (map_sum (⟨⟨fun x : ℝ => (x : EReal), rfl⟩, fun x y => EReal.coe_add x y⟩ : ℝ →+ EReal) f Finset.univ).symm

theorem sum_finite {n : ℕ} (f : Fin n → EReal) (h : ∀ i, ∃ r : ℝ, f i = r) : ∃ r : ℝ, ∑ i, f i = r := by
  choose g hg using h
  exact ⟨_, (Finset.sum_congr rfl fun i _ => hg i).trans (sum_coe g)⟩

theorem square_nonneg (x : EReal) : 0 ≤ x * x := by
  induction x with
  | bot => simp
  | coe r => exact_mod_cast mul_self_nonneg r
  | top => simp

theorem square_top (x : EReal) (h : x * x ≠ ⊤) : ∃ r : ℝ, x = r := by
  induction x with
  | bot => exact absurd (by simp) h
  | coe r => exact ⟨r, rfl⟩
  | top => exact absurd (by simp) h

/-- A normalised entry under a finite gain is finite, whatever the row. -/
theorem normed_finite (x : Fin 64 → EReal) (g : ℝ) (d : Fin 64) : ∃ r : ℝ, normed x g d = r := by
  obtain ⟨e, he, hs⟩ := small
  unfold normed
  rw [hs, width, Ideal.div_coe (by norm_num)]
  have hq : 0 ≤ ∑ e, x e * x e := Finset.sum_nonneg fun i _ => square_nonneg (x i)
  have hd : x d * x d ≤ ∑ e, x e * x e :=
    Finset.single_le_sum (f := fun e => x e * x e) (fun i _ => square_nonneg (x i)) (Finset.mem_univ d)
  generalize ∑ e, x e * x e = q at hq hd
  induction q with
  | bot => exact absurd hq (by simp)
  | top =>
    refine ⟨0, ?_⟩
    rw [EReal.top_mul_coe_of_pos (by norm_num), EReal.top_add_coe, Ideal.rsqrt_top, mul_zero, zero_mul, EReal.coe_zero]
  | coe q =>
    obtain ⟨y, hy⟩ := square_top (x d) (ne_top_of_le_ne_top (EReal.coe_ne_top q) hd)
    have hp : 0 < q * (1 / 64) + e := by
      have : 0 ≤ q := by exact_mod_cast hq
      positivity
    rw [hy, ← EReal.coe_mul, ← EReal.coe_add, Ideal.rsqrt_coe, if_neg (not_lt.mpr hp.le), if_neg hp.ne', ← EReal.coe_mul, ← EReal.coe_mul]
    exact ⟨_, rfl⟩

/-- The largest of a row and the sink is finite. -/
theorem top_finite {n : ℕ} (s : Fin n → EReal) (sink : EReal) (hk : sink ≠ ⊤) (hs : ∀ i, s i ≠ ⊤) (j : Fin n) (hj : s j ≠ ⊥) :
    ∃ m : ℝ, max (Finset.univ.fold max (Ideal.ofBits .f32 0xFF800000#32) s) sink = m := by
  have h1 : max (Finset.univ.fold max (Ideal.ofBits .f32 0xFF800000#32) s) sink < ⊤ :=
    max_lt ((Finset.fold_max_lt _).mpr ⟨by rw [lowest]; exact bot_lt_top, fun i _ => lt_top_iff_ne_top.mpr (hs i)⟩)
      (lt_top_iff_ne_top.mpr hk)
  have h2 : ⊥ < max (Finset.univ.fold max (Ideal.ofBits .f32 0xFF800000#32) s) sink :=
    lt_of_lt_of_le (bot_lt_iff_ne_bot.mpr hj)
      (le_max_of_le_left ((Finset.le_fold_max _).mpr (Or.inr ⟨j, Finset.mem_univ j, le_refl _⟩)))
  exact ⟨_, (EReal.coe_toReal h1.ne h2.ne').symm⟩

/-- The exponential of a score below the largest is a finite number that is not negative, and zero at minus infinity. -/
theorem weight_finite (s : EReal) (m : ℝ) (hs : s ≠ ⊤) : ∃ r : ℝ, 0 ≤ r ∧ Ideal.exp (s - m) = r := by
  induction s with
  | bot => exact ⟨0, le_refl 0, by rw [EReal.bot_sub, Ideal.exp_bot, EReal.coe_zero]⟩
  | coe r => exact ⟨Real.exp (r - m), (Real.exp_pos _).le, by rw [← EReal.coe_sub, Ideal.exp_coe]⟩
  | top => exact absurd rfl hs

/-- And it is positive where the score is a number. -/
theorem weight_pos (s : EReal) (m r : ℝ) (hs : s ≠ ⊤) (hb : s ≠ ⊥) (h : Ideal.exp (s - m) = r) : 0 < r := by
  induction s with
  | bot => exact absurd rfl hb
  | coe x =>
    rw [← EReal.coe_sub, Ideal.exp_coe] at h
    exact (EReal.coe_injective h) ▸ Real.exp_pos _
  | top => exact absurd rfl hs

/-- The softmax with a sink: dividing at the end is dividing the weights, and the values at scores of minus infinity do not count. -/
theorem soft_eq (s : Fin 256 → EReal) (sink : EReal) (v v' : Fin 256 → EReal) (hk : sink ≠ ⊤) (hs : ∀ i, s i ≠ ⊤)
    (j : Fin 256) (hj : s j ≠ ⊥) (hv : ∀ i, s i ≠ ⊥ → v i = v' i) :
    Ideal.div (∑ i, Ideal.exp (s i - max (Finset.univ.fold max (Ideal.ofBits .f32 0xFF800000#32) s) sink) * v i)
      (∑ i, Ideal.exp (s i - max (Finset.univ.fold max (Ideal.ofBits .f32 0xFF800000#32) s) sink)
        + Ideal.exp (sink - max (Finset.univ.fold max (Ideal.ofBits .f32 0xFF800000#32) s) sink)) = soft s sink v' := by
  unfold soft
  obtain ⟨m, hm⟩ := top_finite s sink hk hs j hj
  rw [hm]
  choose w hw0 hw using fun i => weight_finite (s i) m (hs i)
  have hz : ∀ i, s i = ⊥ → w i = 0 := fun i h => by
    have e := hw i
    rw [h, EReal.bot_sub, Ideal.exp_bot] at e
    exact_mod_cast e.symm
  obtain ⟨u, hu0, hu⟩ := weight_finite sink m hk
  have hp : 0 < ∑ i, w i + u := add_pos_of_pos_of_nonneg
    (Finset.sum_pos' (fun i _ => hw0 i) ⟨j, Finset.mem_univ j, weight_pos _ _ _ (hs j) hj (hw j)⟩) hu0
  simp only [hw, hu]
  rw [sum_coe, ← EReal.coe_add]
  simp only [Ideal.div_coe hp.ne']
  rw [mul_comm, Sums.mul_sum_of_finite _ (by exact_mod_cast (one_div_pos.mpr hp).le) (EReal.coe_ne_top _)]
  refine Finset.sum_congr rfl fun i _ => ?_
  by_cases h : s i = ⊥
  · rw [hz i h, EReal.coe_zero, zero_mul, mul_zero, zero_mul, mul_zero]
  · rw [hv i h, mul_comm, mul_assoc, mul_comm (v' i), mul_comm (v' i), ← mul_assoc]

end Cert.Softmax
-- ==== Proof.AttnHead.lean ====
module

public import proofs.«01_k».proof.Proof.AttnKernel
public import proofs.«01_k».proof.Proof.Softmax

/-! One head of the kernel's attention, read at an index. -/

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen
open Cert.ReferenceIdeal.Attn (normed soft score)

theorem stack_at (a b : FVec Ideal S128x256 .bf16) (s : Fin 256) (c : Fin 256) :
    stack a b (ix2 s c) = if h : s.val < 128 then a (ix2 ⟨s.val, h⟩ c) else b (ix2 ⟨s.val - 128, by omega⟩ c) := by
  pointwise [stack]

theorem keys_at (kp kc : FVec Ideal S128x256 .bf16) (kn : FVec Ideal S1x64 .f32) (h : Fin 32) (s : Fin 256) (d : Fin 64) :
    keys kp kc kn h (ix2 s d) = normed (fun e => stack kp kc (ix2 s ⟨64 * (h.val / 8) + e.val, by omega⟩)) (kn (ix2 0 d)) d := by
  unfold keys
  generalize stack kp kc = z
  pointwise [normed]

theorem queries_at (x1 : FVec Ideal S128x2048 .bf16) (qn : FVec Ideal S1x64 .f32) (h : Fin 32) (r : Fin 128) (d : Fin 64) :
    queries x1 qn h (ix2 r d) = normed (fun e => x1 (ix2 r ⟨64 * h.val + e.val, by omega⟩)) (qn (ix2 0 d)) d
      * Ideal.ofBits .f32 0x3E000000#32 := by
  pointwise [queries, normed]

/-- The mask word of one score. -/
abbrev seen (n : ℕ) (r : Fin 128) (s : Fin 256) : BitVec 1 :=
  IntOp.andi (IntOp.andi (IntOp.cmpi .sge (k0_pay3 (ix2 r s)) 0#32) (IntOp.cmpi .slt (k0_pay3 (ix2 r s)) 128#32))
    (IntOp.ori (IntOp.cmpi .sge (BitVec.ofNat 32 s.val) 128#32) (Scalar.cmpi .sgt (BitVec.ofNat 32 n) 0#32))

theorem masked : Named.named (F := Ideal) κ "mask" (φ := .f32) 0xF149F2CA#32 = (⊥ : EReal) := rfl

theorem scores_at (i : grid0.Coords) (x1 : FVec Ideal S128x2048 .bf16) (kp kc : FVec Ideal S128x256 .bf16)
    (qn kn : FVec Ideal S1x64 .f32) (w : BitVec 32) (h : Fin 32) (r : Fin 128) (s : Fin 256) :
    scores i x1 kp kc qn kn w h (ix2 r s) = if seen (i 1).val r s = 1#1 then
      ∑ d : Fin 64, queries x1 qn h (ix2 r d) * keys kp kc kn h (ix2 s d)
        - Ideal.ofBits .f32 w * FloatOps.sitofp (F := Ideal) FTy.f32 (k0_pay3 (ix2 r s)) else ⊥ := by
  unfold scores
  generalize queries x1 qn h = q
  generalize keys kp kc kn h = k
  pointwise [k0_pay4, k0_pay5]
  rfl

theorem weigh_at (s : FVec Ideal S128x256 .f32) (sink : EReal) (v : FVec Ideal S256x64 .bf16) (r : Fin 128) (d : Fin 64) :
    weigh s sink v (ix2 r d) = Ideal.div
      (∑ x : Fin 256, Ideal.exp (s (ix2 r x) - max (Finset.univ.fold max (Ideal.ofBits .f32 0xFF800000#32) fun x => s (ix2 r x)) sink) * v (ix2 x d))
      (∑ x : Fin 256, Ideal.exp (s (ix2 r x) - max (Finset.univ.fold max (Ideal.ofBits .f32 0xFF800000#32) fun x => s (ix2 r x)) sink)
        + Ideal.exp (sink - max (Finset.univ.fold max (Ideal.ofBits .f32 0xFF800000#32) fun x => s (ix2 r x)) sink)) := by
  pointwise [weigh, top]

/-- The distances are the reference's. -/
theorem dist_eq (r : Fin 128) (s : Fin 256) : k0_pay3 (ix2 r s) = Cert.ReferenceIdeal.Attn.dist (ix2 r s) := by
  pointwise [k0_pay3, Cert.ReferenceIdeal.Attn.dist]

/-- A key of the band lies before the first of the batch exactly when the kernel's two comparisons say so. -/
theorem inside : ∀ (n : Fin 16) (s : Fin 256),
    IntOp.ori (IntOp.cmpi .sge (BitVec.ofNat 32 s.val) 128#32) (Scalar.cmpi .sgt (BitVec.ofNat 32 n.val) 0#32)
      = IntOp.cmpi .sge (IntOp.addi (IntOp.subi (IntOp.muli (BitVec.ofNat 32 n.val) 128#32) 128#32) (BitVec.ofNat 32 s.val)) 0#32 := by
  decide +kernel

theorem inside_le : ∀ (n : Fin 16) (s : Fin 256),
    IntOp.cmpi .sge (IntOp.addi (IntOp.subi (IntOp.muli (BitVec.ofNat 32 n.val) 128#32) 128#32) (BitVec.ofNat 32 s.val)) 0#32 = 1#1 →
      128 ≤ n.val * 128 + s.val := by
  decide +kernel

theorem and_right : ∀ a b : BitVec 1, IntOp.andi a b = 1#1 → b = 1#1 := by decide

theorem slope_finite : ∀ h : Fin 32, ∃ r : ℝ, Ideal.ofBits .f32 (Cert.ReferenceIdeal.lit0 h) = r := by
  intro h
  fin_cases h <;> exact ⟨_, by simp [Cert.ReferenceIdeal.lit0, Ideal.ofBits, Ideal.ieee, -EReal.coe_mul]; rfl⟩

/-- A query's own position is a key it sees. -/
theorem own_seen : ∀ (n : Fin 16) (r : Fin 128),
    IntOp.andi (IntOp.andi
        (IntOp.cmpi .sge (IntOp.subi (IntOp.addi (BitVec.ofNat 32 r.val) 128#32) (BitVec.ofNat 32 (128 + r.val))) 0#32)
        (IntOp.cmpi .slt (IntOp.subi (IntOp.addi (BitVec.ofNat 32 r.val) 128#32) (BitVec.ofNat 32 (128 + r.val))) 128#32))
      (IntOp.cmpi .sge (IntOp.addi (IntOp.subi (IntOp.muli (BitVec.ofNat 32 n.val) 128#32) 128#32) (BitVec.ofNat 32 (128 + r.val))) 0#32) = 1#1 := by
  decide +kernel

theorem dist_own (r : Fin 128) (s : Fin 256) : Cert.ReferenceIdeal.Attn.dist (ix2 r s)
    = IntOp.subi (IntOp.addi (BitVec.ofNat 32 r.val) 128#32) (BitVec.ofNat 32 s.val) := by
  pointwise [Cert.ReferenceIdeal.Attn.dist]

/-- The score of a query with its own position is a number where the product is. -/
theorem score_own (n : Fin 16) (h : Fin 32) (r : Fin 128) (x : EReal) (hx : ∃ y : ℝ, x = y) : score n h r ⟨128 + r.val, by omega⟩ x ≠ ⊥ := by
  obtain ⟨y, rfl⟩ := hx
  obtain ⟨w, hw⟩ := slope_finite h
  rw [score, if_pos (by rw [dist_own]; exact own_seen n r), hw, Softmax.eighth]
  exact EReal.coe_ne_bot (y * (1 / 8) - w * ((Cert.ReferenceIdeal.Attn.dist (ix2 r ⟨128 + r.val, by omega⟩)).toInt : ℝ))

/-- Two neighbouring blocks, the second the `n`-th of its batch, are the rows of the band. -/
theorem band_row (a c : FVec Ideal S128x256 .bf16) (p : FVec Ideal S8192x16896 .bf16) (off : ℕ) (ho : off + 256 ≤ 16896)
    (b : Fin 4) (n : Fin 16)
    (hc : ∀ (r : Fin 128) (j : Fin 256), c (ix2 r j) = p (ix2 ⟨b.val * 2048 + (n.val * 128 + r.val), by omega⟩ ⟨off + j.val, by omega⟩))
    (ha : 0 < n.val → ∀ (r : Fin 128) (j : Fin 256), a (ix2 r j) = p (ix2 ⟨b.val * 2048 + (n.val * 128 - 128 + r.val), by omega⟩ ⟨off + j.val, by omega⟩))
    (s : Fin 256) (hs : 128 ≤ n.val * 128 + s.val) (k : Fin 4) (d : Fin 64) :
    stack a c (ix2 s ⟨64 * k.val + d.val, by omega⟩)
      = p (ix2 ⟨b.val * 2048 + (n.val * 128 + s.val - 128), by omega⟩ ⟨off + (k.val * 64 + d.val), by omega⟩) := by
  rw [stack_at]
  split
  · rename_i h
    rw [ha (by omega)]
    exact congrArg p (congrArg₂ ix2 (Fin.ext (by simp only; omega)) (Fin.ext (by simp only; omega)))
  · rename_i h
    rw [hc]
    exact congrArg p (congrArg₂ ix2 (Fin.ext (by simp only; omega)) (Fin.ext (by simp only; omega)))

/-- One head of the kernel, over the blocks it reads of the arguments, is the reference's result there. -/
theorem head_eq (i : grid0.Coords) (x0 : FVec Ideal S32 .f32) (x1 : FVec Ideal S128x2048 .bf16)
    (kc kp vc vp : FVec Ideal S128x256 .bf16) (qb kb : FVec Ideal S1x64 .f32) (p : FVec Ideal S8192x16896 .bf16) (sk : FVec Ideal S1x32 .f32)
    (qn kn : FVec Ideal S1x64 .f32) (b : Fin 4) (n : Fin 16) (r : Fin 128) (h : Fin 32) (d : Fin 64) (hqb : qn = qb) (hkb : kn = kb)
    (hi : (i 1).val = n.val) (h0 : x0 (ix1 h) = sk (ix2 0 h))
    (hq : ∀ (r : Fin 128) (j : Fin 2048), x1 (ix2 r j) = p (ix2 ⟨b.val * 2048 + (n.val * 128 + r.val), by omega⟩ ⟨10240 + j.val, by omega⟩))
    (hkc : ∀ (r : Fin 128) (j : Fin 256), kc (ix2 r j) = p (ix2 ⟨b.val * 2048 + (n.val * 128 + r.val), by omega⟩ ⟨12288 + j.val, by omega⟩))
    (hkp : 0 < n.val → ∀ (r : Fin 128) (j : Fin 256), kp (ix2 r j) = p (ix2 ⟨b.val * 2048 + (n.val * 128 - 128 + r.val), by omega⟩ ⟨12288 + j.val, by omega⟩))
    (hvc : ∀ (r : Fin 128) (j : Fin 256), vc (ix2 r j) = p (ix2 ⟨b.val * 2048 + (n.val * 128 + r.val), by omega⟩ ⟨12544 + j.val, by omega⟩))
    (hvp : 0 < n.val → ∀ (r : Fin 128) (j : Fin 256), vp (ix2 r j) = p (ix2 ⟨b.val * 2048 + (n.val * 128 - 128 + r.val), by omega⟩ ⟨12544 + j.val, by omega⟩))
    (fs : sk (ix2 0 h) ≠ ⊤) (fq : ∀ d, ∃ x : ℝ, qn (ix2 0 d) = (x : EReal)) (fk : ∀ d, ∃ x : ℝ, kn (ix2 0 d) = (x : EReal)) :
    head i x0 x1 kc kp vc vp qb kb (Cert.ReferenceIdeal.lit0 h) h (ix2 r d) = Cert.ReferenceIdeal.Attn.result p sk qn kn
      (ix2 ⟨b.val * 2048 + (n.val * 128 + r.val), by omega⟩ ⟨64 * h.val + d.val, by omega⟩) := by
  subst hqb hkb
  rw [Cert.ReferenceIdeal.Attn.result_place]
  have hK := band_row kp kc p 12288 (by decide) b n hkc hkp
  have hV := band_row vp vc p 12544 (by decide) b n hvc hvp
  have hS : ∀ s : Fin 256, scores i x1 kp kc qn kn (Cert.ReferenceIdeal.lit0 h) h (ix2 r s) = score n h r s
      (∑ d : Fin 64, (if hs : 128 ≤ n.val * 128 + s.val then
          normed (fun e => p (ix2 ⟨b.val * 2048 + (n.val * 128 + s.val - 128), by omega⟩ ⟨12288 + (h.val / 8 * 64 + e.val), by omega⟩)) (kn (ix2 0 d)) d
        else 0) * normed (fun e => p (ix2 ⟨b.val * 2048 + (n.val * 128 + r.val), by omega⟩ ⟨10240 + (h.val / 8 * 512 + h.val % 8 * 64 + e.val), by omega⟩))
          (qn (ix2 0 d)) d) := by
    intro s
    rw [scores_at, score, hi, seen, inside, dist_eq, Softmax.lowest]
    split
    · rename_i hm
      have hs := inside_le n s (and_right _ _ hm)
      refine congrArg (fun x : EReal => x - _) ?_
      rw [mul_comm _ (Ideal.ofBits .f32 0x3E000000#32), Sums.mul_sum_of_finite _ (by rw [Softmax.eighth]; exact_mod_cast (by norm_num : (0 : ℝ) ≤ 1 / 8))
        (by rw [Softmax.eighth]; exact EReal.coe_ne_top _)]
      refine Finset.sum_congr rfl fun d _ => ?_
      have e1 : (fun e : Fin 64 => stack kp kc (ix2 s ⟨64 * (h.val / 8) + e.val, by omega⟩))
          = fun e => p (ix2 ⟨b.val * 2048 + (n.val * 128 + s.val - 128), by omega⟩ ⟨12288 + (h.val / 8 * 64 + e.val), by omega⟩) :=
        funext fun e => hK s hs ⟨h.val / 8, by omega⟩ e
      have e2 : (fun e : Fin 64 => x1 (ix2 r ⟨64 * h.val + e.val, by omega⟩))
          = fun e => p (ix2 ⟨b.val * 2048 + (n.val * 128 + r.val), by omega⟩ ⟨10240 + (h.val / 8 * 512 + h.val % 8 * 64 + e.val), by omega⟩) :=
        funext fun e => (hq r _).trans (congrArg p (congrArg₂ ix2 rfl (Fin.ext (by simp only; omega))))
      rw [queries_at, keys_at, dif_pos hs, e1, e2, mul_comm (normed _ _ _) (Ideal.ofBits .f32 0x3E000000#32), mul_assoc, mul_comm (normed _ _ _)]
    · rfl
  have hD : ∀ s : Fin 256, 128 ≤ n.val * 128 + s.val → ∃ y : ℝ, (∑ d : Fin 64, (if hs : 128 ≤ n.val * 128 + s.val then
          normed (fun e => p (ix2 ⟨b.val * 2048 + (n.val * 128 + s.val - 128), by omega⟩ ⟨12288 + (h.val / 8 * 64 + e.val), by omega⟩)) (kn (ix2 0 d)) d
        else 0) * normed (fun e => p (ix2 ⟨b.val * 2048 + (n.val * 128 + r.val), by omega⟩ ⟨10240 + (h.val / 8 * 512 + h.val % 8 * 64 + e.val), by omega⟩))
          (qn (ix2 0 d)) d) = (y : EReal) := by
    intro s hs
    refine Softmax.sum_finite _ fun d => ?_
    obtain ⟨gq, hgq⟩ := fq d
    obtain ⟨gk, hgk⟩ := fk d
    simp only [hgq, hgk]
    obtain ⟨y1, h1⟩ := Softmax.normed_finite (fun e => p (ix2 ⟨b.val * 2048 + (n.val * 128 + s.val - 128), by omega⟩ ⟨12288 + (h.val / 8 * 64 + e.val), by omega⟩)) gk d
    obtain ⟨y2, h2⟩ := Softmax.normed_finite (fun e => p (ix2 ⟨b.val * 2048 + (n.val * 128 + r.val), by omega⟩ ⟨10240 + (h.val / 8 * 512 + h.val % 8 * 64 + e.val), by omega⟩)) gq d
    rw [dif_pos hs, h1, h2]
    exact ⟨y1 * y2, (EReal.coe_mul _ _).symm⟩
  have hN : ∀ s : Fin 256, score n h r s
      (∑ d : Fin 64, (if hs : 128 ≤ n.val * 128 + s.val then
          normed (fun e => p (ix2 ⟨b.val * 2048 + (n.val * 128 + s.val - 128), by omega⟩ ⟨12288 + (h.val / 8 * 64 + e.val), by omega⟩)) (kn (ix2 0 d)) d
        else 0) * normed (fun e => p (ix2 ⟨b.val * 2048 + (n.val * 128 + r.val), by omega⟩ ⟨10240 + (h.val / 8 * 512 + h.val % 8 * 64 + e.val), by omega⟩))
          (qn (ix2 0 d)) d) ≠ ⊤ := by
    intro s
    rw [score, Softmax.lowest]
    split
    · rename_i hm
      obtain ⟨y, hy⟩ := hD s (inside_le n s (and_right _ _ hm))
      obtain ⟨w, hw⟩ := slope_finite h
      rw [hy, hw, Softmax.eighth]
      exact EReal.coe_ne_top (y * (1 / 8) - w * ((Cert.ReferenceIdeal.Attn.dist (ix2 r s)).toInt : ℝ))
    · exact bot_ne_top
  have hM : ∀ (s : Fin 256) (x : EReal), score n h r s x ≠ ⊥ → 128 ≤ n.val * 128 + s.val := by
    intro s x hx
    rw [score, Softmax.lowest] at hx
    split at hx
    · rename_i hm
      exact inside_le n s (and_right _ _ hm)
    · exact absurd rfl hx
  unfold head
  generalize hz : stack vp vc = z
  pointwise [weigh_at]
  simp only [hS, h0]
  refine Softmax.soft_eq _ _ _ _ fs hN ⟨128 + r.val, by omega⟩ (score_own n h r _ (hD _ (by simp only; omega))) fun s hne => ?_
  have hs := hM s _ hne
  rw [dif_pos hs, ← hz]
  exact hV s hs ⟨h.val / 8, by omega⟩ d

end Cert.KernelIdeal.Attn
-- ==== Proof.AttnValue.lean ====
module

public import proofs.«01_k».proof.Proof.AttnHead

/-! The windowed attention: what its result array holds is the reference's term. -/

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

variable (m : (ℓ : Loc nD τ sig) → Buf (Elt Ideal) ℓ)

/-- The blocks each window names. -/
theorem idx : ∀ t : Fin cfg0.N, win0_0.index t 0 = 0 ∧ win0_1.index t = ![t.val, 5]
    ∧ win0_2.index t = ![t.val, 48] ∧ win0_3.index t = ![t.val / 16 * 16 + (t.val % 16 - 1), 48]
    ∧ win0_4.index t = ![t.val, 49] ∧ win0_5.index t = ![t.val / 16 * 16 + (t.val % 16 - 1), 49]
    ∧ win0_6.index t = ![0, 0] ∧ win0_7.index t = ![0, 0] ∧ win0_8.index t = ![t.val, 0] :=
  (by decide +kernel : ∀ t : Fin grid0.N, _)

/-- The second coordinate of a point. -/
theorem coord : ∀ t : Fin cfg0.N, ((grid0.coords t) 1).val = t.val % 16 :=
  (by decide +kernel : ∀ t : Fin grid0.N, _)

/-- The result array after the run, where no sink is plus infinity and the gains are finite. -/
theorem final (c : Dev nD)
    (fs : ∀ h : Fin 32, (m ((c : Thread nD τ).loc main_arg1) : FVec Ideal S1x32 .f32) (ix2 0 h) ≠ (⊤ : EReal))
    (fq : ∀ d : Fin 64, ∃ x : ℝ, (m ((c : Thread nD τ).loc main_arg2) : FVec Ideal S1x64 .f32) (ix2 0 d) = (x : EReal))
    (fk : ∀ d : Fin 64, ∃ x : ℝ, (m ((c : Thread nD τ).loc main_arg3) : FVec Ideal S1x64 .f32) (ix2 0 d) = (x : EReal)) :
    (dats m 0 c).arrAt 8 (cfgs 0).N = Cert.ReferenceIdeal.Attn.result
    (m ((c : Thread nD τ).loc main_arg0)) (m ((c : Thread nD τ).loc main_arg1)) (m ((c : Thread nD τ).loc main_arg2))
    (m ((c : Thread nD τ).loc main_arg3)) := by
  refine (dats m 0 c).arrAt_eq_of_covers 8 _ (by decide +kernel) fun t hf y => ?_
  blk_simp
  rw [after0_8, outsAt_eq]
  have hy0 : (y 0).val < 128 := (y 0).isLt
  have hy1 : (y 1).val < 2048 := (y 1).isLt
  have ht : t.val < 64 := t.isLt
  refine (heads_at _ _ _ _ _ _ _ _ _ ⟨(y 1).val / 64, by omega⟩ (ix2 ⟨(y 0).val, hy0⟩ ⟨(y 1).val % 64, by omega⟩) y rfl
    (by show (y 1).val = 64 * ((y 1).val / 64) + (y 1).val % 64; omega)).trans ?_
  refine (head_eq _ _ _ _ _ _ _ _ _ (m ((c : Thread nD τ).loc main_arg0)) (m ((c : Thread nD τ).loc main_arg1))
    (m ((c : Thread nD τ).loc main_arg2)) (m ((c : Thread nD τ).loc main_arg3))
    ⟨t.val / 16, by omega⟩ ⟨t.val % 16, by omega⟩ _ _ _ ?_ ?_ (coord t) ?_ ?_ ?_ ?_ ?_ ?_ ?_ ?_ ?_).trans (congrArg _ ?_)
  · funext j
    blk_point [iblk, V, idx t]
    rw [Shape.reshapeEquiv_reshapeEquiv, Shape.reshapeEquiv_self]
    blk_simp [idx t]
  · funext j
    blk_point [iblk, V, idx t]
    rw [Shape.reshapeEquiv_reshapeEquiv, Shape.reshapeEquiv_self]
    blk_simp [idx t]
  · blk_point [iblk, V, idx t]
  · intro r j
    unfold X0_1 Pipeline.Window.fill
    rw [dif_pos (moved0_1 t _)]
    blk_ext [iblk, V, idx t]
  · intro r j
    blk_ext [iblk, V, idx t]
  · intro hn r j
    simp only at hn
    blk_ext [iblk, V, idx t]
  · intro r j
    blk_ext [iblk, V, idx t]
  · intro hn r j
    simp only at hn
    blk_ext [iblk, V, idx t]
  · exact fs _
  · exact fq
  · exact fk
  · funext a
    match a with
    | ⟨0, _⟩ =>
      refine Fin.ext ?_
      have e : t.val / 16 * 2048 + (t.val % 16 * 128 + (y 0).val) = t.val * 128 + (y 0).val := by omega
      refine Eq.trans e ?_
      blk_simp [idx t]
      rfl
    | ⟨1, _⟩ =>
      refine Fin.ext ?_
      have e : 64 * ((y 1).val / 64) + (y 1).val % 64 = (y 1).val := by omega
      refine Eq.trans e ?_
      blk_simp [idx t]
      rfl

end Cert.KernelIdeal.Attn
-- ==== Proof.AttnClaims.lean ====
module

public import proofs.«01_k».proof.Defs
public import proofs.«01_k».proof.Proof.AttnValue
public import proofs.«01_k».proof.Proof.Gen.Kernel.Frame
public import proofs.«01_k».proof.Proof.Gen.KernelIdeal.Frame
public import proofs.«01_k».proof.Proof.Gen.Kernel
public import proofs.«01_k».proof.Proof.Gen.KernelIdeal
public import proofs.«01_k».proof.Proof.Gen.ReferenceIdeal
public import proofs.«01_k».proof.Proof.Gen.Pre_finite_gains
public import Idealize.ShloMosaic.Lib.ReduceAll
public import Idealize.ShloMosaic.Adequacy
public import Idealize.ShloMosaic.Init

/-! The claims about the windowed attention. -/

@[expose] public section

set_option maxRecDepth 16384

noncomputable section

namespace Cert.Proof.AttnClaims

open Idealize.ShloMosaic Idealize.SL.Sem
open Cert.Pre_finite_gains (S1x32 S1x64 S8192x16896)

/-- A magnitude below the infinite one is a number's. -/
theorem number (x : EReal) (h :
    Ideal.cmp .olt (max x (-x)) (Ideal.ofBits .f32 0x7F800000#32) = 1#1) : ∃ r : ℝ, x = (r : EReal) := by
  induction x with
  | bot => simp [Ideal.cmp, Ideal.ofBits, Ideal.ieee] at h
  | coe r => exact ⟨r, rfl⟩
  | top => simp [Ideal.cmp, Ideal.ofBits, Ideal.ieee] at h

/-- A value below the infinite one is not it. -/
theorem below (x : EReal) (h : Ideal.cmp .olt x (Ideal.ofBits .f32 0x7F800000#32) = 1#1) : x ≠ ⊤ := by
  rintro rfl
  simp [Ideal.cmp, Ideal.ofBits, Ideal.ieee] at h

/-- What the precondition says of the sinks and of the two gains. -/
theorem finite (p : FVec Ideal S8192x16896 .bf16) (sinks : FVec Ideal S1x32 .f32) (qn kn : FVec Ideal S1x64 .f32)
    (h : Cert.Pre_finite_gains.fn (F := Ideal) p sinks qn kn = fun _ => 1#1) :
    (∀ i, sinks i ≠ (⊤ : EReal)) ∧ (∀ i, ∃ r : ℝ, qn i = (r : EReal)) ∧ ∀ i, ∃ r : ℝ, kn i = (r : EReal) := by
  have e := congrFun h (fun i => i.elim0)
  obtain ⟨e, hk⟩ := IntOp.andi_eq_one.mp e
  obtain ⟨hs, hq⟩ := IntOp.andi_eq_one.mp e
  haveI : Subsingleton Cert.Pre_finite_gains.S_.Idx := ⟨fun a b => funext fun i => i.elim0⟩
  refine ⟨fun i => below _ ?_, fun i => number _ ?_, fun i => number _ ?_⟩
  · exact Host.reduce_andi_all _ _ _ _ _ hs i
  · exact Host.reduce_andi_all _ _ _ _ _ hq i
  · exact Host.reduce_andi_all _ _ _ _ _ hk i

/-- The program as written runs and leaves its arguments and semaphores alone. -/
theorem frame_p : Cert.quiescent_Kernel := fun m ρ _ => Cert.Kernel.Gen.frame m ρ

/-- So does its ideal reading. -/
theorem frame_pi : Cert.quiescent_KernelIdeal := fun m ρ _ => Cert.KernelIdeal.Gen.frame m ρ

/-- And under the precondition. -/
theorem frame_pi_pre : Cert.quiescent_KernelIdeal_pre_finite_gains := fun m ρ _ => Cert.KernelIdeal.Gen.frame m ρ

/-- So does the reference; it has no semaphore. -/
theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- And under the precondition. -/
theorem frame_ri_pre : Cert.quiescent_ReferenceIdeal_pre_finite_gains := fun m ρ _ => frame_ri m ρ trivial

/-- The one named constant is the table's. -/
theorem preserves : Cert.preserves_Kernel_KernelIdeal :=
  IdealRules.named_const.statement Cert.KernelIdeal.κ "mask" .f32 0xF149F2CA#32 ⊥ rfl

/-- The kernel's result array is the reference's. -/
theorem algebraic : Cert.algebraic_KernelIdeal_ReferenceIdeal_pre_finite_gains := by
  intro m ρ m' ρ' hp hag
  refine ⟨_, Cert.KernelIdeal.Value.run_blocks m ρ, ?_⟩
  refine (θ_run Cert.ReferenceIdeal.defs _ _).mono (fun r h c => ⟨(h c).1.trans ?_, (h c).2⟩)
    (Cert.ReferenceIdeal.Value.run (F := Ideal) m' ρ')
  obtain ⟨a0, a1, a2, a3⟩ := hag c
  obtain ⟨fs, fq, fk⟩ := finite _ _ _ _ (hp c)
  refine (Cert.ReferenceIdeal.Attn.run_eq m' c).trans ?_
  rw [a0, a1, a2, a3]
  exact (Cert.KernelIdeal.Attn.final m c (fun h => fs _) (fun d => fq _) (fun d => fk _)).symm

end Cert.Proof.AttnClaims
-- ==== Proof.FfnValue.lean ====
module

public import proofs.«01_k».proof.Proof.Gen.FfnIdeal.Value
public import proofs.«01_k».proof.Proof.Gen.FfnReferenceIdeal.Run
public import proofs.«01_k».proof.Proof.Sums
public import Idealize.ShloMosaic.Lib.Pipeline.ValueKit
public import Idealize.ShloMosaic.Lib.Pipeline.ReadBack

/-! The half-step feed-forward call: what its result array holds is the reference's term. -/

@[expose] public section

set_option maxRecDepth 16384

noncomputable section

open Idealize.ShloMosaic Idealize.ShloMosaic.TcCoe Idealize.SL.Sem
open Idealize.ShloMosaic.Pipeline (Dat)

namespace Cert.FfnReferenceIdeal.Half

open Cert.FfnReferenceIdeal Cert.FfnReferenceIdeal.Gen

/-- The rows divided by their root mean square, times the gain. -/
abbrev rows (x : FVec Ideal S8192x2048 .f32) (g : FVec Ideal S1x2048 .f32) : FVec Ideal S8192x2048 .f32 :=
  mulf (mulf x (broadcastInDim S8192x2048 ![0, 1] bcast_S8192x1_S8192x2048_0_1 (Host.rsqrt (addf (Host.divf
      (broadcastInDim S8192x1 ![0] bcast_S8192_S8192x1_0 (Host.reduceAdd (mulf x x) (constant S_ .f32 0x00000000#32)
        reducesTo_S8192x2048_S8192_d1 h_S_))
      (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1
      (broadcastInDim S1x2048 ![1] bcast_S2048_S1x2048_1 (shapeCast _ g shapeCasts_S1x2048_S2048)))

/-- The rows projected by one of the two input matrices. -/
abbrev lift (x : FVec Ideal S8192x2048 .f32) (g : FVec Ideal S1x2048 .f32) (w : FVec Ideal S1x2048x5632 .f32) :
    FVec Ideal S8192x5632 .f32 :=
  Host.dotGeneral dot_S8192x2048_S2048x5632_S8192x5632_1_0_0_1_n_n none (rows x g)
    (shapeCast _ w shapeCasts_S1x2048x5632_S2048x5632)

/-- `x / (1 + exp (-x))` at every element. -/
abbrev silu (x : FVec Ideal S8192x5632 .f32) : FVec Ideal S8192x5632 .f32 :=
  mulf x (Host.divf (broadcastInDim S8192x5632 ![] bcast_S_S8192x5632 (constant S_ .f32 0x3F800000#32))
    (addf (broadcastInDim S8192x5632 ![] bcast_S_S8192x5632 (constant S_ .f32 0x3F800000#32)) (Host.exp (Host.negf x))))

/-- The reference's result as a function of its arguments. -/
abbrev result (x : FVec Ideal S8192x2048 .f32) (g : FVec Ideal S1x2048 .f32) (wg wu : FVec Ideal S1x2048x5632 .f32)
    (wd : FVec Ideal S1x5632x2048 .f32) : FVec Ideal S8192x2048 .f32 :=
  addf x (mulf (broadcastInDim S8192x2048 ![] bcast_S_S8192x2048 (constant S_ .f32 0x3F000000#32))
    (Host.dotGeneral dot_S8192x5632_S5632x2048_S8192x2048_1_0_0_1_n_n none
      (mulf (silu (lift x g wg)) (lift x g wu)) (shapeCast _ wd shapeCasts_S1x5632x2048_S5632x2048)))

end Cert.FfnReferenceIdeal.Half

namespace Cert.FfnIdeal.Half

open Cert.FfnIdeal Cert.FfnIdeal.Gen

variable (m : (ℓ : Loc nD τ sig) → Buf (Elt Ideal) ℓ)

theorem half_val : Ideal.ofBits FTy.f32 1056964608#32 = ((1 / 2 : ℝ) : EReal) := by
  simp [Ideal.ofBits, Ideal.ieee, -EReal.coe_mul]; norm_num

theorem half_nonneg : (0 : EReal) ≤ Ideal.ofBits FTy.f32 1056964608#32 := by
  rw [half_val]; exact EReal.coe_nonneg.mpr (by norm_num)

theorem half_ne_top : Ideal.ofBits FTy.f32 1056964608#32 ≠ ⊤ := by
  rw [half_val]; exact EReal.coe_ne_top _

/-- What one point adds to the block: half the gated product of the two projections, through the last matrix. -/
abbrev part (h : FVec Ideal S512x2048 .bf16) (wg wu : FVec Ideal S2048x512 .bf16) (wd : FVec Ideal S512x2048 .bf16)
    (j : S512x2048.Idx) : EReal :=
  ∑ k : Fin 512, Ideal.ofBits FTy.f32 1056964608#32 * ((((∑ d : Fin 2048, h (ix2 (j 0) d) * wg (ix2 d k))
      * Ideal.logistic (∑ d : Fin 2048, h (ix2 (j 0) d) * wg (ix2 d k)))
      * ∑ d : Fin 2048, h (ix2 (j 0) d) * wu (ix2 d k)) * wd (ix2 k (j 1)))

theorem step_at (h : FVec Ideal S512x2048 .bf16) (wg wu : FVec Ideal S2048x512 .bf16) (acc : FVec Ideal S512x2048 .f32)
    (wd : FVec Ideal S512x2048 .bf16) (j : S512x2048.Idx) :
    k0_pay2 (F := Ideal) h wg wu acc wd j = acc j + part h wg wu wd j := by
  pointwise [k0_pay2]
  simp only [part, mul_assoc]

theorem idx : ∀ t : Fin cfg0.N, win0_0.index t = ![t.val / 11, 0] ∧ win0_1.index t = ![0, 0]
    ∧ win0_2.index t = ![0, t.val % 11] ∧ win0_3.index t = ![0, t.val % 11] ∧ win0_4.index t = ![t.val % 11, 0]
    ∧ win0_5.index t = ![t.val / 11, 0] :=
  (by decide +kernel : ∀ t : Fin grid0.N, _)

/-- The normalised rows the point's stretch works on. -/
abbrev hrows (c : Dev nD) (t : Fin cfg0.N) : FVec Ideal S512x2048 .bf16 := k0_pay1 (F := Ideal) (iblk m c 0 t) (iblk m c 1 t)

theorem rows_prev (c : Dev nD) (t : Fin cfg0.N) (h : ¬t.val % 11 = 0) :
    iblk m c 0 ⟨t.val - 1, Nat.lt_of_le_of_lt (Nat.sub_le _ _) t.isLt⟩ = iblk m c 0 t := by
  funext j
  blk_ext [iblk, idx t, idx ⟨t.val - 1, Nat.lt_of_le_of_lt (Nat.sub_le _ _) t.isLt⟩]

theorem gain_prev (c : Dev nD) (t : Fin cfg0.N) :
    iblk m c 1 ⟨t.val - 1, Nat.lt_of_le_of_lt (Nat.sub_le _ _) t.isLt⟩ = iblk m c 1 t := by
  funext j
  blk_ext [iblk, idx t, idx ⟨t.val - 1, Nat.lt_of_le_of_lt (Nat.sub_le _ _) t.isLt⟩]

/-- The scratch holds the stretch's normalised rows after every point. -/
theorem scratch (c : Dev nD) (n : ℕ) (hn : n < cfg0.N) : (outsAt0 m c n hn).2 = hrows m c ⟨n, hn⟩ := by
  induction n with
  | zero =>
    rw [outsAt0_A m c ⟨0, hn⟩ (Nat.zero_mod _)]
    frame_out
  | succ n ih =>
    by_cases h : (n + 1) % 11 = 0
    · rw [outsAt0_A m c ⟨n + 1, hn⟩ h]
      frame_out
    · rw [outsAt0_B m c ⟨n + 1, hn⟩ h]
      frame_out
      have h1 := rows_prev m c ⟨n + 1, hn⟩ h
      have h2 := gain_prev m c ⟨n + 1, hn⟩
      simp only [Nat.add_sub_cancel] at h1 h2 ⊢
      show (outsAt0 m c n _).2 = _
      rw [ih (Nat.lt_of_succ_lt hn)]
      exact congrArg₂ (fun a b => k0_pay1 (F := Ideal) a b) h1 h2

/-- The block after the last point of its stretch: the rows, plus the parts of the stretch's eleven points. -/
theorem block (c : Dev nD) (t : Fin cfg0.N) (h : t.val % 11 = 10) (j : S512x2048.Idx) :
    (outsAt0 m c t.val t.isLt).1 j = (show FVec Ideal S512x2048 .f32 from iblk m c 0 t) j
      + ∑ s : Fin 11, part (hrows m c ⟨11 * (t.val / 11) + s.val, Pipeline.run_point_lt_of_flush t h s⟩)
          (iblk m c 2 ⟨11 * (t.val / 11) + s.val, Pipeline.run_point_lt_of_flush t h s⟩)
          (iblk m c 3 ⟨11 * (t.val / 11) + s.val, Pipeline.run_point_lt_of_flush t h s⟩)
          (iblk m c 4 ⟨11 * (t.val / 11) + s.val, Pipeline.run_point_lt_of_flush t h s⟩) j := by
  refine Sums.after_last 11 (by decide) (fun n h => (outsAt0 m c n h).1)
    (fun t j => (show FVec Ideal S512x2048 .f32 from iblk m c 0 t) j)
    (fun t j => part (hrows m c t) (iblk m c 2 t) (iblk m c 3 t) (iblk m c 4 t) j) ?_ ?_ ?_ t h j
  · intro t h j
    rw [outsAt0_A m c t h]
    frame_out
    exact step_at _ _ _ _ _ _
  · intro t h j
    have hs := scratch m c (t.val - 1) (Nat.lt_of_le_of_lt (Nat.sub_le _ _) t.isLt)
    rw [outsAt0_B m c t h]
    frame_out
    rw [hs]
    refine (step_at _ _ _ _ _ _).trans ?_
    have h1 := rows_prev m c t h
    have h2 := gain_prev m c t
    rw [show hrows m c ⟨t.val - 1, Nat.lt_of_le_of_lt (Nat.sub_le _ _) t.isLt⟩ = hrows m c t from
      congrArg₂ (fun a b => k0_pay1 (F := Ideal) a b) h1 h2, Idealize.ShloMosaic.read_unread_whole]
  · intro t h j
    exact congrFun (rows_prev m c t h) j

/-- The result array after the run is the reference's term of the arguments. -/
theorem final (c : Dev nD) : (dats m 0 c).arrAt 5 (cfgs 0).N = Cert.FfnReferenceIdeal.Half.result
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  have h10 : t.val % 11 = 10 := (flush0_5 t).mp hf
  blk_simp
  rw [after0_5, block m c t h10]
  pointwise [Cert.FfnReferenceIdeal.Half.result, k0_pay1, part]
  rw [Sums.mul_sum_of_finite _ half_nonneg half_ne_top]
  simp only [Ideal.logistic]
  refine congrArg₂ (fun a b : EReal => a + b) ?_ ?_
  · blk_ext [iblk, V, idx t]
  refine Fin.sum_mul_add_congr fun s k hl => ?_
  blk_point [iblk, V, idx t, idx ⟨11 * (t.val / 11) + s.val, Pipeline.run_point_lt_of_flush t h10 s⟩]

end Cert.FfnIdeal.Half
-- ==== Proof.FfnClaims.lean ====
module

public import proofs.«01_k».proof.Defs
public import proofs.«01_k».proof.Proof.FfnValue
public import proofs.«01_k».proof.Proof.Gen.Ffn.Frame
public import proofs.«01_k».proof.Proof.Gen.FfnIdeal.Frame
public import proofs.«01_k».proof.Proof.Gen.Ffn
public import proofs.«01_k».proof.Proof.Gen.FfnIdeal
public import proofs.«01_k».proof.Proof.Gen.FfnReferenceIdeal
public import Idealize.ShloMosaic.Adequacy
public import Idealize.ShloMosaic.Init

/-! The five claims about the half-step feed-forward call. -/

@[expose] public section

set_option maxRecDepth 16384

noncomputable section

namespace Cert.Proof.FfnClaims

open Idealize.ShloMosaic Idealize.SL.Sem

/-- The program as written runs and leaves its arguments and semaphores alone. -/
theorem frame_p : Cert.quiescent_Ffn := fun m ρ _ => Cert.Ffn.Gen.frame m ρ

/-- So does its ideal reading. -/
theorem frame_pi : Cert.quiescent_FfnIdeal := fun m ρ _ => Cert.FfnIdeal.Gen.frame m ρ

/-- So does the reference; it has no semaphore. -/
theorem frame_ri : Cert.quiescent_FfnReferenceIdeal := fun m ρ _ =>
  (θ_run Cert.FfnReferenceIdeal.defs _ _).mono
    (fun r h => ⟨fun c => (h c).2, sem_eq_zero_of_no_sems (by decide) r.2⟩)
    (Cert.FfnReferenceIdeal.Value.run (F := Ideal) m ρ)

/-- The pass rewrote nothing. -/
theorem preserves : Cert.preserves_Ffn_FfnIdeal := trivial

/-- The kernel's result array is the reference's. -/
theorem algebraic : Cert.algebraic_FfnIdeal_FfnReferenceIdeal := by
  intro m ρ m' ρ' _ hag
  refine ⟨_, Cert.FfnIdeal.Value.run_blocks m ρ, ?_⟩
  refine (θ_run Cert.FfnReferenceIdeal.defs _ _).mono (fun r h c => ⟨(h c).1.trans ?_, (h c).2⟩)
    (Cert.FfnReferenceIdeal.Value.run (F := Ideal) m' ρ')
  obtain ⟨a0, a1, a2, a3, a4⟩ := hag c
  rw [a0, a1, a2, a3, a4]
  exact (Cert.FfnIdeal.Half.final m c).symm

end Cert.Proof.FfnClaims
-- ==== Proof.InprojIdealRun.lean ====
module

public import proofs.«01_k».proof.Proof.Gen.InprojIdeal.Frame
public import proofs.«01_k».proof.Proof.Gen.InprojIdeal.Skeleton
public import Idealize.ShloMosaic.Lib.Claim
public import Idealize.ShloMosaic.Lib.VecWindow

/-! The combined projection, run: what each point of the grid leaves in the staging buffers and in the kept rows. The grid walks sixteen
blocks of rows, and for each of them eleven blocks of columns; the rows are normalised, and the separate columns projected, at the first of
the eleven only. -/

@[expose] public section

set_option maxRecDepth 16384

noncomputable section

namespace Cert.InprojIdeal.Run

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A load of a whole buffer reads what the buffer was given. -/
theorem load_whole {sp : Space} {s : Shape} {e : EltTy} (M : Memref sig .tc sp s e) (h : M.IsWhole) (X : Vec F s e)
    {off : Fin s.rank → ℕ} (inb : ∀ a, off a + s.size a ≤ s.size a) :
    M.view.readAt (Elt F) (Rect.unit off s.size inb).toLoadRect (h.unread X) = X :=
  (View.readAt_full _ _ inb).trans (h.read_unread X)

/-- A point whose column block is the first: it normalises the rows, keeps them and projects the separate columns. -/
theorem first (c : Dev nD) (i : grid0.Coords) (arg2 : Memref sig .tc .vmem S512x2048 .f32) (harg2 : arg2.IsWhole)
    (arg3 : Memref sig .tc .vmem S1x2048 .f32) (harg3 : arg3.IsWhole) (arg4 : Memref sig .tc .vmem S2048x1536 .bf16) (harg4 : arg4.IsWhole)
    (arg5 : Memref sig .tc .vmem S2048x128 .bf16) (harg5 : arg5.IsWhole) (arg6 : Memref sig .tc .vmem S512x1536 .bf16) (harg6 : arg6.IsWhole)
    (arg7 : Memref sig .tc .vmem S512x128 .f32) (harg7 : arg7.IsWhole) (arg8 : Memref sig .tc .vmem S512x2048 .bf16) (harg8 : arg8.IsWhole)
    (hc : k0_cond1 i = 1#1) (x : Vec F S512x2048 .f32) (g : Vec F S1x2048 .f32) (w : Vec F S2048x1536 .bf16) (wd : Vec F S2048x128 .bf16)
    (K : PUnit → sProp (MT nD τ sig Unit (Elt F) ℕ (UR sig nD τ) ℕ)) :
    iprop(owns (c : Thread nD τ) arg2 fullShare x ∗ owns (c : Thread nD τ) arg3 fullShare g ∗ owns (c : Thread nD τ) arg4 fullShare w
        ∗ owns (c : Thread nD τ) arg5 fullShare wd ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare x ∗ owns (c : Thread nD τ) arg3 fullShare g ∗ owns (c : Thread nD τ) arg4 fullShare w
          ∗ owns (c : Thread nD τ) arg5 fullShare wd ∗ owns (c : Thread nD τ) arg6 fullShare (k0_pay4 (k0_pay2 x g) w)
          ∗ owns (c : Thread nD τ) arg7 fullShare (k0_pay3 x g wd) ∗ owns (c : Thread nD τ) arg8 fullShare (k0_pay2 x g)) -∗ K ⟨⟩))
      ⊢ wp frame (wpE (defs₀ (F := F)) Variants.none c none) Set.univ
        (cc0_in_proj i arg2 harg2 arg3 harg3 arg4 harg4 arg5 harg5 arg6 harg6 arg7 harg7 arg8 harg8) K := by
  rw [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]; · iexists _; isplitr; swap; · iexact H0
                  ipureintro; exact hf0
  isplitl [H1]; · iexists _; isplitr; swap; · iexact H1
                  ipureintro; exact hf1
  isplitl [H2]; · iexists _; isplitr; swap; · iexact H2
                  ipureintro; exact hf2
  isplitl [H3]; · iexists _; isplitr; swap; · iexact H3
                  ipureintro; exact hf3
  isplitl [H4]
  · iexists _; isplitr; swap; · iexact H4
    ipureintro
    refine (View.read_writes_full _ _ _ _ _).trans ?_
    refine congrArg₂ k0_pay4 ((View.readCov_full _ _ _ _ _).trans ?_) (load_whole _ _ _ _)
    exact congrArg₂ k0_pay2 (load_whole _ _ _ _) (load_whole _ _ _ _)
  isplitl [H5]
  · iexists _; isplitr; swap; · iexact H5
    ipureintro
    refine (View.read_writes_full _ _ _ _ _).trans ?_
    rw [load_whole, load_whole, load_whole]
  iexists _; isplitr; swap; · iexact H6
  ipureintro
  refine (View.read_writes_full _ _ _ _ _).trans ?_
  exact congrArg₂ k0_pay2 (load_whole _ _ _ _) (load_whole _ _ _ _)

/-- A point at any other column block: it projects the kept rows and touches nothing else. -/
theorem later (c : Dev nD) (i : grid0.Coords) (arg2 : Memref sig .tc .vmem S512x2048 .f32) (harg2 : arg2.IsWhole)
    (arg3 : Memref sig .tc .vmem S1x2048 .f32) (harg3 : arg3.IsWhole) (arg4 : Memref sig .tc .vmem S2048x1536 .bf16) (harg4 : arg4.IsWhole)
    (arg5 : Memref sig .tc .vmem S2048x128 .bf16) (harg5 : arg5.IsWhole) (arg6 : Memref sig .tc .vmem S512x1536 .bf16) (harg6 : arg6.IsWhole)
    (arg7 : Memref sig .tc .vmem S512x128 .f32) (harg7 : arg7.IsWhole) (arg8 : Memref sig .tc .vmem S512x2048 .bf16) (harg8 : arg8.IsWhole)
    (hc : ¬k0_cond1 i = 1#1) (w : Vec F S2048x1536 .bf16) (h : Vec F S512x2048 .bf16)
    (K : PUnit → sProp (MT nD τ sig Unit (Elt F) ℕ (UR sig nD τ) ℕ)) :
    iprop(owns (c : Thread nD τ) arg4 fullShare w ∗ (∃ d, owns (c : Thread nD τ) arg6 fullShare d) ∗ owns (c : Thread nD τ) arg8 fullShare h
        ∗ (iprop(owns (c : Thread nD τ) arg4 fullShare w ∗ owns (c : Thread nD τ) arg6 fullShare (k0_pay4 h w)
          ∗ owns (c : Thread nD τ) arg8 fullShare h) -∗ K ⟨⟩))
      ⊢ wp frame (wpE (defs₀ (F := F)) Variants.none c none) Set.univ
        (cc0_in_proj i arg2 harg2 arg3 harg3 arg4 harg4 arg5 harg5 arg6 harg6 arg7 harg7 arg8 harg8) K := by
  rw [cc0_in_proj_eq_skeleton]; unfold cc0_in_proj_skel
  unfold owns
  iintro ⟨⟨%f2, %hf2, H2⟩, ⟨%d4, %f4, -, H4⟩, ⟨%f6, %hf6, H6⟩, Hk⟩
  obtain rfl := harg4.eq_unread hf2; obtain rfl := harg8.eq_unread hf6
  sl_exec (disch := first | sl_exact hc)
  sl_step
  iapply Hk
  isplitl [H2]; · iexists _; isplitr; swap; · iexact H2
                  ipureintro; exact hf2
  isplitl [H4]
  · iexists _; isplitr; swap; · iexact H4
    ipureintro
    refine (View.read_writes_full _ _ _ _ _).trans ?_
    exact congrArg₂ k0_pay4 (load_whole _ _ _ _) (load_whole _ _ _ _)
  iexists _; isplitr; swap; · iexact H6
  ipureintro; exact hf6

variable (m : (ℓ : Loc nD τ sig) → Buf (Elt F) ℓ) (ρ : Dev nD → PrngReg)

/-- The branch is taken at the first of the eleven points of a block of rows. -/
theorem cond_iff (t : Fin cfg0.N) : k0_cond1 (grid0.coords t) = 1#1 ↔ t.val % 11 = 0 := by
  have e1 : (grid0.coords t 1).val = t.val / 1 % 11 := Pipeline.Grid.coords_val t 1 (by decide) rfl
  simp only [k0_cond1, e1]; word_cmp

/-- The first point of the block of rows that `t` works on. -/
def lead (t : Fin cfg0.N) : Fin cfg0.N := ⟨t.val / 11 * 11, Nat.lt_of_le_of_lt (Nat.div_mul_le_self _ _) t.isLt⟩

/-- The point before. -/
abbrev before (t : Fin cfg0.N) : Fin cfg0.N := ⟨t.val - 1, Nat.lt_of_le_of_lt (Nat.sub_le _ _) t.isLt⟩

theorem lead_first (t : Fin cfg0.N) (h : t.val % 11 = 0) : lead t = t := Fin.ext (by simp only [lead]; omega)

theorem lead_later (t : Fin cfg0.N) (h : ¬t.val % 11 = 0) : lead (before t) = lead t := Fin.ext (by simp only [lead]; omega)

/-- What the first point of a block of rows makes of its rows. -/
abbrev rowsAt (c : Dev nD) (t : Fin cfg0.N) : Vec F S512x2048 .bf16 := k0_pay2 (iblk m c 0 t) (iblk m c 1 t)

/-- What it makes of the separate columns. -/
abbrev apartAt (c : Dev nD) (t : Fin cfg0.N) : Vec F S512x128 .f32 := k0_pay3 (iblk m c 0 t) (iblk m c 1 t) (iblk m c 3 t)

/-- The normalised rows kept while `t`'s block of rows is worked on. -/
def rows (c : Dev nD) (t : Fin cfg0.N) : Vec F S512x2048 .bf16 := rowsAt m c (lead t)

/-- The separate columns of `t`'s block of rows. -/
def apart (c : Dev nD) (t : Fin cfg0.N) : Vec F S512x128 .f32 := apartAt m c (lead t)

/-- The block of the projection that `t` computes. -/
def block (c : Dev nD) (t : Fin cfg0.N) : Vec F S512x1536 .bf16 := k0_pay4 (rows m c t) (iblk m c 2 t)

theorem rows_first (c : Dev nD) (t : Fin cfg0.N) (h : t.val % 11 = 0) : rows m c t = k0_pay2 (iblk m c 0 t) (iblk m c 1 t) :=
  congrArg (rowsAt m c) (lead_first t h)

theorem apart_first (c : Dev nD) (t : Fin cfg0.N) (h : t.val % 11 = 0) :
    apart m c t = k0_pay3 (iblk m c 0 t) (iblk m c 1 t) (iblk m c 3 t) :=
  congrArg (apartAt m c) (lead_first t h)

theorem rows_later (c : Dev nD) (t : Fin cfg0.N) (h : ¬t.val % 11 = 0) : rows m c (before t) = rows m c t :=
  congrArg (rowsAt m c) (lead_later t h)

theorem apart_later (c : Dev nD) (t : Fin cfg0.N) (h : ¬t.val % 11 = 0) : apart m c (before t) = apart m c t :=
  congrArg (apartAt m c) (lead_later t h)

/-- The kernel's own buffer, whole. -/
abbrev kept : Memref sig .tc .vmem S512x2048 .bf16 := Memref.whole cc0_scratch0

/-- What holds between points: at first the launch's own, afterwards the kept rows of the point before. -/
def Inv (c : Dev nD) : (n : ℕ) → n ≤ cfg0.N → sProp (MT nD τ sig Unit (Elt F) ℕ (UR sig nD τ) ℕ)
  | 0, _ => Pipeline.ΦA spec0 c
  | n + 1, hn => iprop(owns (c : Thread nD τ) kept fullShare (rows m c ⟨n, hn⟩) ∗ (∃ r, prngReg c r))

theorem launch_inv (c : Dev nD) : (Pipeline.ΦA spec0 c : sProp (MT nD τ sig Unit (Elt F) ℕ (UR sig nD τ) ℕ))
    = iprop((∃ d, owns (c : Thread nD τ) kept fullShare d) ∗ (∃ r, prngReg c r)) := by
  unfold Pipeline.ΦA; rw [scopedRest0_eq]; simp only [kept, owns_whole]; rfl

theorem inv_pos (c : Dev nD) (n : ℕ) (h : n ≤ cfg0.N) (hz : n ≠ 0) :
    Inv m c n h = iprop(owns (c : Thread nD τ) kept fullShare (rows m c ⟨n - 1, by omega⟩) ∗ (∃ r, prngReg c r)) := by
  cases n with
  | zero => exact absurd rfl hz
  | succ n => rfl

/-- Between any two points the kept buffer holds something. -/
theorem inv_any (c : Dev nD) (n : ℕ) (h : n ≤ cfg0.N) : Inv m c n h ⊢ iprop((∃ d, owns (c : Thread nD τ) kept fullShare d) ∗ (∃ r, prngReg c r)) := by
  cases n with
  | zero => rw [← launch_inv]; exact Idealize.SL.BI.Entails.refl _
  | succ n =>
    unfold Inv
    iintro ⟨HS, Hg⟩
    isplitl [HS]
    · iexists _; iexact HS
    iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block m c t
    | ⟨5, _⟩ => apart m c t
  Φ t := Inv m c t.val (Nat.le_of_lt_succ t.isLt)
  q _ := fullShare
  owed _ := 0

theorem arrays (c : Dev nD) (w : Fin cfg0.W) : (dats m 0 c).A w = V m c (Pipeline.arrRef spec0 w) := by
  dsimp only [dats]

theorem inv_start (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = block m c t := by dsimp only [dats]
theorem after_5 (c : Dev nD) (t : Fin cfg0.N) : (dats m 0 c).after 5 t = apart m c t := by dsimp only [dats]

theorem before_0 (c : Dev nD) (t : Fin cfg0.N) (d) : (dats m 0 c).before 0 t d = iblk m c 0 t :=
  before0_0_of m (dats m 0 c) (arrays m c 0) (after_0 m c) t d
theorem before_1 (c : Dev nD) (t : Fin cfg0.N) (d) : (dats m 0 c).before 1 t d = iblk m c 1 t :=
  before0_1_of m (dats m 0 c) (arrays m c 1) (after_1 m c) t d
theorem before_2 (c : Dev nD) (t : Fin cfg0.N) (d) : (dats m 0 c).before 2 t d = iblk m c 2 t :=
  before0_2_of m (dats m 0 c) (arrays m c 2) (after_2 m c) t d
theorem before_3 (c : Dev nD) (t : Fin cfg0.N) (d) : (dats m 0 c).before 3 t d = iblk m c 3 t :=
  before0_3_of m (dats m 0 c) (arrays m c 3) (after_3 m c) t d

/-- The separate columns' window is idle except at the first point of a block of rows. -/
theorem idle_first (t : Fin cfg0.N) (h : t.val % 11 = 0) : cfg0.idle 5 (cfg0.grid.coords t) = false := by
  show (!(k0_cond1 (grid0.coords t) == 1#1)) = false
  rw [(cond_iff t).mpr h]; rfl

theorem idle_later (t : Fin cfg0.N) (h : ¬t.val % 11 = 0) : cfg0.idle 5 (cfg0.grid.coords t) = true := by
  show (!(k0_cond1 (grid0.coords t) == 1#1)) = true
  rw [Bool.not_eq_true', beq_eq_false_iff_ne]
  exact fun e => h ((cond_iff t).mp e)

/-- At a later point of a block of rows the separate columns are still those the first point left. -/
theorem before_5 (c : Dev nD) (n : ℕ) : ∀ (t : Fin cfg0.N) (ht : t.val = n) (h : ¬t.val % 11 = 0) (d),
    (dats m 0 c).before 5 t d = apart m c t := by
  induction n with
  | zero => intro t ht h d; omega
  | succ n ih =>
    intro t ht h d
    have hf : ¬(cfg0.win 5).flush (before t) = true := fun hf => by
      have := (flush0_5 _).mp hf
      dsimp only at this
      omega
    rw [(dats m 0 c).before_of_pos 5 t (by omega) rfl d, if_neg hf, ← apart_later m c t h]
    unfold Dat.left
    by_cases h0 : (before t).val % 11 = 0
    · rw [idle_first (before t) h0]
      exact after_5 m c (before t)
    · rw [idle_later (before t) h0]
      exact ih (before t) (by simp only; omega) h0 d

/-- The separate columns, held, are what the pipeline asks for at any point. -/
theorem apart_leaves (c : Dev nD) (t : Fin cfg0.N) :
    owns (c : Thread nD τ) (st0_5 t) fullShare (apart m c t) ⊢ (dats m 0 c).leavesExact 5 t := by
  unfold Dat.leavesExact
  by_cases h0 : t.val % 11 = 0
  · rw [idle_first t h0]
    dsimp only
    rw [after_5]
  · rw [idle_later t h0]
    dsimp only
    cases (cfg0.win 5).flush t
    · dsimp only
      simp only [before_5 m c t.val t rfl h0]
      iintro H
      iexists (fun _ => default)
      iexact H
    · dsimp only
      rw [after_5]

/-- What the body is called with at a point, the windows one by one. -/
def pre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def post (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

set_option maxHeartbeats 3200000 in
/-- The body at any point. -/
theorem body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show (dats m 0 c).owesAt () t.succ = (dats m 0 c).owesAt () t.castSucc from rfl,
    after_0, after_1, after_2, after_3, after_4, inv_start m c t]
  rw [show (dats m 0 c).Φ t.succ = iprop(owns (c : Thread nD τ) kept fullShare (rows m c t) ∗ (∃ r, prngReg c r)) from rfl]
  have key := apart_leaves m c t
  by_cases h0 : t.val % 11 = 0
  · unfold block
    rw [rows_first m c t h0]
    rw [apart_first m c t h0] at key
    iintro ⟨HI, Ho, ⟨%d0, H0⟩, ⟨%d1, H1⟩, ⟨%d2, H2⟩, ⟨%d3, H3⟩, ⟨%d4, H4⟩, ⟨%d5, H5⟩⟩
    ihave HI := (inv_any m c _ _) $$ HI
    icases HI with ⟨HS, Hg⟩
    iapply first c (grid0.coords t) _ _ _ _ _ _ _ _ _ _ _ _ _ _ ((cond_iff t).mpr h0) (iblk m c 0 t) (iblk m c 1 t) (iblk m c 2 t) (iblk m c 3 t)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply key
    iexact H5
  · rw [inv_pos m c _ _ (by omega)]
    rw [show rows m c ⟨t.val - 1, _⟩ = rows m c t from rows_later m c t h0]
    simp only [before_5 m c t.val t rfl h0]
    unfold block
    iintro ⟨⟨HS, Hg⟩, Ho, H0, H1, ⟨%d2, H2⟩, H3, ⟨%d4, H4⟩, ⟨%d5, H5⟩⟩
    icases H0 with ⟨%d0, H0⟩
    icases H1 with ⟨%d1, H1⟩
    icases H3 with ⟨%d3, H3⟩
    iapply later c (grid0.coords t) _ _ _ _ _ _ _ _ _ _ _ _ _ _ (fun h => h0 ((cond_iff t).mp h)) (iblk m c 2 t) (rows m c t)
    isplitl [H2]; · iexact H2
    isplitl [H4]; · iexists _; iexact H4
    isplitl [HS]; · iexact HS
    iintro ⟨H2, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply key
    iexact H5

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body m c t) rfl .rfl fun _ => .rfl

theorem enter (c : Dev nD) : Pipeline.ΦA spec0 c ⊢ (dats m 0 c).Φ 0 := by
  exact Idealize.SL.BI.Entails.refl _

theorem leave (c : Dev nD) : (dats m 0 c).Φ (Fin.last cfg0.N) ⊢ Pipeline.ΦA spec0 c := by
  rw [launch_inv]; exact inv_any m c cfg0.N (Nat.le_refl _)

set_option backward.isDefEq.respectTransparency.types false in
/-- The launch, every semaphore at zero at the end. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m) (hin := enter m) (hout := leave m)

theorem run : θ_run defs (onTc (τ := τ) (main (F := F))) (s₀ m ρ) (Pipeline.FramePost cfgs (dats m) 0 (V m)) :=
  (θ_run defs _ _).mono (fun _ h => h.1) (run_quiescent m ρ)

/-- Every run ends, with the arguments as they were and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (arrays m) (run m ρ)) ((θ_run defs _ _).mono (fun _ h => h.2) (run_quiescent m ρ))

end Cert.InprojIdeal.Run
-- ==== Proof.InprojValue.lean ====
module

public import proofs.«01_k».proof.Proof.InprojIdealRun
public import proofs.«01_k».proof.Proof.Gen.InprojReferenceIdeal.Run
public import Idealize.ShloMosaic.Lib.Pipeline.ValueKit
public import Idealize.ShloMosaic.Lib.Pipeline.ReadBack

/-! The combined projection: what its two result arrays hold are the reference's terms. -/

@[expose] public section

set_option maxRecDepth 16384

noncomputable section

open Idealize.ShloMosaic Idealize.ShloMosaic.TcCoe Idealize.SL.Sem
open Idealize.ShloMosaic.Pipeline (Dat)

namespace Cert.InprojReferenceIdeal.Whole

open Cert.InprojReferenceIdeal Cert.InprojReferenceIdeal.Gen

/-- The rows divided by their root mean square, times the gain. -/
abbrev rows (x : FVec Ideal S8192x2048 .f32) (g : FVec Ideal S1x2048 .f32) : FVec Ideal S8192x2048 .f32 :=
  mulf (mulf x (broadcastInDim S8192x2048 ![0, 1] bcast_S8192x1_S8192x2048_0_1 (Host.rsqrt (addf (Host.divf
      (broadcastInDim S8192x1 ![0] bcast_S8192_S8192x1_0 (Host.reduceAdd (mulf x x) (constant S_ .f32 0x00000000#32)
        reducesTo_S8192x2048_S8192_d1 h_S_))
      (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1
      (broadcastInDim S1x2048 ![1] bcast_S2048_S1x2048_1 (shapeCast _ g shapeCasts_S1x2048_S2048)))

/-- The rows through the whole matrix. -/
abbrev lift (x : FVec Ideal S8192x2048 .f32) (g : FVec Ideal S1x2048 .f32) (w : FVec Ideal S1x2048x16960 .f32) :
    FVec Ideal S8192x16960 .f32 :=
  Host.dotGeneral dot_S8192x2048_S2048x16960_S8192x16960_1_0_0_1_n_n none (rows x g)
    (shapeCast _ w shapeCasts_S1x2048x16960_S2048x16960)

/-- All the columns but the separate ones. -/
abbrev most (x : FVec Ideal S8192x2048 .f32) (g : FVec Ideal S1x2048 .f32) (w : FVec Ideal S1x2048x16960 .f32) :
    FVec Ideal S8192x16896 .bf16 :=
  truncf .bf16 (concatenate S8192x16896 1
    [⟨S8192x10240, (extractStridedSlice S8192x10240 ![0, 0] (lift x g w) slices_S8192x16960_S8192x10240_0_0)⟩,
      ⟨S8192x6656, (extractStridedSlice S8192x6656 ![0, 10304] (lift x g w) slices_S8192x16960_S8192x6656_0_10304)⟩]
    concatenates_S8192x10240_S8192x6656_S8192x16896_d1) bitsLt_bf16_f32

/-- The sixty-four separate columns, and zeros. -/
abbrev apart (x : FVec Ideal S8192x2048 .f32) (g : FVec Ideal S1x2048 .f32) (w : FVec Ideal S1x2048x16960 .f32) :
    FVec Ideal S8192x128 .f32 :=
  pad S8192x128 ![0, 0] ![0, 64] ![0, 0] (extractStridedSlice S8192x64 ![0, 10240] (lift x g w) slices_S8192x16960_S8192x64_0_10240)
    (sitofp .f32 (constantI S_ 32 0#32)) pads_S8192x64_S8192x128_000_0640 h_S_

end Cert.InprojReferenceIdeal.Whole

namespace Cert.InprojIdeal.Whole

open Cert.InprojIdeal Cert.InprojIdeal.Gen

variable (m : (ℓ : Loc nD τ sig) → Buf (Elt Ideal) ℓ)

theorem idx : ∀ t : Fin cfg0.N, win0_0.index t = ![t.val / 11, 0] ∧ win0_1.index t = ![0, 0]
    ∧ win0_2.index t = ![0, t.val % 11] ∧ win0_3.index t = ![0, 0] ∧ win0_4.index t = ![t.val / 11, t.val % 11]
    ∧ win0_5.index t = ![t.val / 11, 0] :=
  (by decide +kernel : ∀ t : Fin grid0.N, _)

/-- The matrix without the separate columns, as the grid finds it. -/
theorem entry_most (c : Dev nD) : (show FVec Ideal S2048x16896 .bf16 from V m c main_v4) = truncf .bf16 (concatenate S2048x16896 1
    [⟨S2048x10240, (extractStridedSlice S2048x10240 ![0, 0] (shapeCast S2048x16960 (show FVec Ideal S1x2048x16960 .f32 from
        m ((c : Thread nD τ).loc main_arg2)) shapeCasts_S1x2048x16960_S2048x16960) slices_S2048x16960_S2048x10240_0_0)⟩,
      ⟨S2048x6656, (extractStridedSlice S2048x6656 ![0, 10304] (shapeCast S2048x16960 (show FVec Ideal S1x2048x16960 .f32 from
        m ((c : Thread nD τ).loc main_arg2)) shapeCasts_S1x2048x16960_S2048x16960) slices_S2048x16960_S2048x6656_0_10304)⟩]
    concatenates_S2048x10240_S2048x6656_S2048x16896_d1) bitsLt_bf16_f32 := by
  simp only [V, List.flatten_cons, List.flatten_nil, List.append_nil, List.cons_append, List.nil_append, StableHlo.TRef.binary,
    StableHlo.TRef.unary, StableHlo.TRef.toBuf, StableHlo.TRef.ofBuf, cast_eq]
  after_results <;> rfl

/-- The separate columns of the matrix, and zeros, as the grid finds them. -/
theorem entry_apart (c : Dev nD) : (show FVec Ideal S2048x128 .bf16 from V m c main_v7) = truncf .bf16 (pad S2048x128 ![0, 0] ![0, 64] ![0, 0]
    (extractStridedSlice S2048x64 ![0, 10240] (shapeCast S2048x16960 (show FVec Ideal S1x2048x16960 .f32 from
      m ((c : Thread nD τ).loc main_arg2)) shapeCasts_S1x2048x16960_S2048x16960) slices_S2048x16960_S2048x64_0_10240)
    (sitofp .f32 (constantI S_ 32 0#32)) pads_S2048x64_S2048x128_000_0640 h_S_) bitsLt_bf16_f32 := by
  simp only [V, List.flatten_cons, List.flatten_nil, List.append_nil, List.cons_append, List.nil_append, StableHlo.TRef.binary,
    StableHlo.TRef.unary, StableHlo.TRef.toBuf, StableHlo.TRef.ofBuf, cast_eq]
  after_results <;> rfl

/-- The gain, as the grid finds it. -/
theorem entry_gain (c : Dev nD) : V m c main_v9 = m ((c : Thread nD τ).loc main_arg1) := by
  simp only [V, List.flatten_cons, List.flatten_nil, List.append_nil, List.cons_append, List.nil_append, StableHlo.TRef.binary,
    StableHlo.TRef.unary, StableHlo.TRef.toBuf, StableHlo.TRef.ofBuf, cast_eq]
  after_results
  refine funext fun i => ?_
  show shapeCast S1x2048 (shapeCast S2048 (show FVec Ideal S1x2048 .f32 from m ((c : Thread nD τ).loc main_arg1))
    shapeCasts_S1x2048_S2048) shapeCasts_S2048_S1x2048 i = _
  exact congrFun (shapeCast_shapeCast _ _ _) i

/-- A row of a block of the rows is a row of the argument. -/
theorem rows_at (c : Dev nD) (t : Fin cfg0.N) (y : Fin 512) (x : Fin 2048) (h : t.val / 11 * 512 + y.val < 8192) :
    (show FVec Ideal S512x2048 .f32 from iblk m c 0 (Run.lead t)) (ix2 y x)
      = (show FVec Ideal S8192x2048 .f32 from m ((c : Thread nD τ).loc main_arg0)) (ix2 ⟨t.val / 11 * 512 + y.val, h⟩ x) := by
  have e : (Run.lead t).val / 11 = t.val / 11 := by simp only [Run.lead]; omega
  unfold iblk
  rw [show V m c (Pipeline.arrRef spec0 0) = m ((c : Thread nD τ).loc main_arg0) from V_main_arg0 m c]
  blk_simp [idx (Run.lead t)]
  refine congrArg _ (funext fun a => ?_)
  match a with
  | ⟨0, _⟩ => refine Fin.ext ?_; blk_simp [idx (Run.lead t)]; simp [e]
  | ⟨1, _⟩ => refine Fin.ext ?_; blk_simp [idx (Run.lead t)]

theorem gain_at (c : Dev nD) (t : Fin cfg0.N) (x : Fin 2048) :
    (show FVec Ideal S1x2048 .f32 from iblk m c 1 (Run.lead t)) (ix2 0 x)
      = (show FVec Ideal S1x2048 .f32 from m ((c : Thread nD τ).loc main_arg1)) (ix2 0 x) := by
  unfold iblk
  rw [show V m c (Pipeline.arrRef spec0 1) = m ((c : Thread nD τ).loc main_arg1) from entry_gain m c]
  blk_simp [idx (Run.lead t)]
  refine congrArg _ (funext fun a => ?_)
  match a with
  | ⟨0, _⟩ => refine Fin.ext ?_; blk_simp [idx (Run.lead t)]
  | ⟨1, _⟩ => refine Fin.ext ?_; blk_simp [idx (Run.lead t)]

theorem most_at (c : Dev nD) (t : Fin cfg0.N) (x : Fin 2048) (y : Fin 1536) (h : t.val % 11 * 1536 + y.val < 16896) :
    (show FVec Ideal S2048x1536 .bf16 from iblk m c 2 t) (ix2 x y)
      = (show FVec Ideal S2048x16896 .bf16 from V m c main_v4) (ix2 x ⟨t.val % 11 * 1536 + y.val, h⟩) := by
  unfold iblk
  blk_simp [idx t]
  refine congrArg _ (funext fun a => ?_)
  match a with
  | ⟨0, _⟩ => refine Fin.ext ?_; blk_simp [idx t]
  | ⟨1, _⟩ => refine Fin.ext ?_; blk_simp [idx t]

theorem apart_at (c : Dev nD) (t : Fin cfg0.N) (x : Fin 2048) (y : Fin 128) :
    (show FVec Ideal S2048x128 .bf16 from iblk m c 3 t) (ix2 x y)
      = (show FVec Ideal S2048x128 .bf16 from V m c main_v7) (ix2 x y) := by
  unfold iblk
  blk_simp [idx t]
  refine congrArg _ (funext fun a => ?_)
  match a with
  | ⟨0, _⟩ => refine Fin.ext ?_; blk_simp [idx t]
  | ⟨1, _⟩ => refine Fin.ext ?_; blk_simp [idx t]

theorem most_val (c : Dev nD) (x : Fin 2048) (k : Fin 16896) :
    (show FVec Ideal S2048x16896 .bf16 from V m c main_v4) (ix2 x k)
      = if h : k.val < 10240 then (show FVec Ideal S1x2048x16960 .f32 from m ((c : Thread nD τ).loc main_arg2)) (ix3 0 x ⟨k.val, by omega⟩)
        else (show FVec Ideal S1x2048x16960 .f32 from m ((c : Thread nD τ).loc main_arg2))
          (ix3 0 x ⟨10304 + (k.val - 10240), by have := k.isLt; omega⟩) := by
  refine (congrFun (entry_most m c) _).trans ?_
  pointwise

theorem zero_val : (FloatOps.sitofp FTy.f32 0#32 : Ideal FTy.f32) = (0 : EReal) := by
  simp [FloatOps.sitofp]

theorem apart_val (c : Dev nD) (x : Fin 2048) (k : Fin 128) :
    (show FVec Ideal S2048x128 .bf16 from V m c main_v7) (ix2 x k)
      = if h : k.val < 64 then (show FVec Ideal S1x2048x16960 .f32 from m ((c : Thread nD τ).loc main_arg2)) (ix3 0 x ⟨10240 + k.val, by omega⟩)
        else (0 : EReal) := by
  refine (congrFun (entry_apart m c) _).trans ?_
  pointwise [zero_val]

/-- A projected row depends on the row, the gain and the column only. -/
theorem dot_congr {X X' G G' W W' : Fin 2048 → EReal} (hX : ∀ x, X x = X' x) (hG : ∀ x, G x = G' x) (hW : ∀ x, W x = W' x) (a b : EReal) :
    ∑ x, X x * Ideal.rsqrt (Ideal.div (∑ x, X x * X x) a + b) * G x * W x
      = ∑ x, X' x * Ideal.rsqrt (Ideal.div (∑ x, X' x * X' x) a + b) * G' x * W' x := by
  simp only [hX, hG, hW]

/-- The first result array after the run is the reference's. -/
theorem final_most (c : Dev nD) : (Run.dats m 0 c).arrAt 4 (cfgs 0).N = Cert.InprojReferenceIdeal.Whole.most
    (m ((c : Thread nD τ).loc main_arg0)) (m ((c : Thread nD τ).loc main_arg1)) (m ((c : Thread nD τ).loc main_arg2)) := by
  refine (Run.dats m 0 c).arrAt_eq_of_covers 4 _ (by decide +kernel) fun t hf y => ?_
  have h0 : (y 0).val < 512 := (y 0).isLt
  have h1 : (y 1).val < 1536 := (y 1).isLt
  have ht : t.val < 176 := lt_of_lt_of_eq t.isLt N_0
  have b0 : t.val / 11 * 512 + (y 0).val < 8192 := by omega
  have b1 : t.val % 11 * 1536 + (y 1).val < 16896 := by omega
  blk_simp
  rw [Run.after_4]
  unfold Run.block Run.rows
  pointwise [Cert.InprojReferenceIdeal.Whole.most, k0_pay4, k0_pay2, k0_pay1]
  have e0 : (((View.whole main_v10_0).slice (win0_4.rect t)).emb y 0) = ⟨t.val / 11 * 512 + (y 0).val, b0⟩ := by
    refine Fin.ext ?_; blk_simp [idx t]
  have e1 : (((View.whole main_v10_0).slice (win0_4.rect t)).emb y 1) = ⟨t.val % 11 * 1536 + (y 1).val, b1⟩ := by
    refine Fin.ext ?_; blk_simp [idx t]
  simp only [e0, e1]
  have hw := fun x : Fin 2048 => (most_at m c t x ⟨(y 1).val, h1⟩ b1).trans (most_val m c x _)
  split
  · exact dot_congr (fun x => rows_at m c t ⟨(y 0).val, h0⟩ x b0) (fun x => gain_at m c t x)
      (fun x => (hw x).trans (dif_pos (by assumption))) _ _
  · exact dot_congr (fun x => rows_at m c t ⟨(y 0).val, h0⟩ x b0) (fun x => gain_at m c t x)
      (fun x => (hw x).trans (dif_neg (by assumption))) _ _

/-- So is the second. -/
theorem final_apart (c : Dev nD) : (Run.dats m 0 c).arrAt 5 (cfgs 0).N = Cert.InprojReferenceIdeal.Whole.apart
    (m ((c : Thread nD τ).loc main_arg0)) (m ((c : Thread nD τ).loc main_arg1)) (m ((c : Thread nD τ).loc main_arg2)) := by
  refine (Run.dats m 0 c).arrAt_eq_of_covers 5 _ (by decide +kernel) fun t hf y => ?_
  have h0 : (y 0).val < 512 := (y 0).isLt
  have h1 : (y 1).val < 128 := (y 1).isLt
  have ht : t.val < 176 := lt_of_lt_of_eq t.isLt N_0
  have b0 : t.val / 11 * 512 + (y 0).val < 8192 := by omega
  blk_simp
  rw [Run.after_5]
  unfold Run.apart
  pointwise [Cert.InprojReferenceIdeal.Whole.apart, k0_pay3, k0_pay1, zero_val]
  have e0 : (((View.whole main_v10_1).slice (win0_5.rect t)).emb y 0) = ⟨t.val / 11 * 512 + (y 0).val, b0⟩ := by
    refine Fin.ext ?_; blk_simp [idx t]
  have e1 : (((View.whole main_v10_1).slice (win0_5.rect t)).emb y 1) = ⟨(y 1).val, h1⟩ := by
    refine Fin.ext ?_; blk_simp [idx t]
  simp only [e0, e1]
  have hw := fun x : Fin 2048 => (apart_at m c (Run.lead t) x ⟨(y 1).val, h1⟩).trans (apart_val m c x _)
  split
  · exact dot_congr (fun x => rows_at m c t ⟨(y 0).val, h0⟩ x b0) (fun x => gain_at m c t x)
      (fun x => (hw x).trans (dif_pos (by assumption))) _ _
  · refine (dot_congr (fun x => rows_at m c t ⟨(y 0).val, h0⟩ x b0) (fun x => gain_at m c t x)
      (fun x => (hw x).trans (dif_neg (by assumption))) _ _).trans ?_
    simp only [mul_zero, Finset.sum_const_zero]

end Cert.InprojIdeal.Whole
-- ==== Proof.InprojClaims.lean ====
module

public import proofs.«01_k».proof.Defs
public import proofs.«01_k».proof.Proof.InprojRun
public import proofs.«01_k».proof.Proof.InprojIdealRun
public import proofs.«01_k».proof.Proof.InprojValue
public import proofs.«01_k».proof.Proof.Gen.Inproj
public import proofs.«01_k».proof.Proof.Gen.InprojIdeal
public import proofs.«01_k».proof.Proof.Gen.InprojReferenceIdeal
public import proofs.«01_k».proof.Proof.Gen.InprojReferenceIdeal.Run
public import Idealize.ShloMosaic.Adequacy
public import Idealize.ShloMosaic.Init

/-! The five claims about the combined projection. -/

@[expose] public section

set_option maxRecDepth 16384

noncomputable section

namespace Cert.InprojIdeal.Whole

open Idealize.ShloMosaic Idealize.ShloMosaic.TcCoe Idealize.SL.Sem
open Cert.InprojIdeal Cert.InprojIdeal.Gen

variable (m : (ℓ : Loc nD τ sig) → Buf (Elt Ideal) ℓ) (ρ : Dev nD → PrngReg)

/-- Every run ends with the contents of the two result arrays the blocks leave, and the arguments as they were. -/
theorem run_blocks : θ_run defs (onTc (τ := τ) (main (F := Ideal))) ⟨m, fun _ => 0, ρ⟩ (fun r => ∀ c : Dev nD,
      r.2.mem ((c.tc : Thread nD τ).loc main_v10_0) = (Run.dats m 0 c).arrAt 4 cfg0.N
      ∧ r.2.mem ((c.tc : Thread nD τ).loc main_v10_1) = (Run.dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1 4, (h c).1 5,
      ((h c).1 0).trans (((Run.dats m 0 c).arrAt_in 0 rfl _).trans ((Run.arrays m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (Run.run m ρ)

end Cert.InprojIdeal.Whole

namespace Cert.Proof.InprojClaims

open Idealize.ShloMosaic Idealize.SL.Sem

/-- The program as written runs and leaves its arguments and semaphores alone. -/
theorem frame_p : Cert.quiescent_Inproj := fun m ρ _ => Cert.Inproj.Run.frame m ρ

/-- So does its ideal reading. -/
theorem frame_pi : Cert.quiescent_InprojIdeal := fun m ρ _ => Cert.InprojIdeal.Run.frame m ρ

/-- So does the reference; it has no semaphore. -/
theorem frame_ri : Cert.quiescent_InprojReferenceIdeal := fun m ρ _ =>
  (θ_run Cert.InprojReferenceIdeal.defs _ _).mono
    (fun r h => ⟨fun c => (h c).2.2, sem_eq_zero_of_no_sems (by decide) r.2⟩)
    (Cert.InprojReferenceIdeal.Value.run (F := Ideal) m ρ)

/-- The pass rewrote nothing. -/
theorem preserves : Cert.preserves_Inproj_InprojIdeal := trivial

/-- The kernel's two result arrays are the reference's. -/
theorem algebraic : Cert.algebraic_InprojIdeal_InprojReferenceIdeal := by
  intro m ρ m' ρ' _ hag
  refine ⟨_, _, Cert.InprojIdeal.Whole.run_blocks m ρ, ?_⟩
  refine (θ_run Cert.InprojReferenceIdeal.defs _ _).mono
    (fun r h c => ⟨(h c).1.trans ?_, (h c).2.1.trans ?_, (h c).2.2⟩)
    (Cert.InprojReferenceIdeal.Value.run (F := Ideal) m' ρ')
  all_goals
    obtain ⟨a0, a1, a2⟩ := hag c
    rw [a0, a1, a2]
  · exact (Cert.InprojIdeal.Whole.final_most m c).symm
  · exact (Cert.InprojIdeal.Whole.final_apart m c).symm

end Cert.Proof.InprojClaims
-- ==== Proof.MergeValue.lean ====
module

public import proofs.«01_k».proof.Proof.Gen.MergeIdeal.Value
public import proofs.«01_k».proof.Proof.Gen.MergeReferenceIdeal.Run
public import proofs.«01_k».proof.Proof.Sums
public import Idealize.ShloMosaic.Lib.Pipeline.ValueKit

/-! The merge of the two branches: what its result array holds is the reference's term. -/

@[expose] public section

set_option maxRecDepth 16384

noncomputable section

open Idealize.ShloMosaic Idealize.ShloMosaic.TcCoe Idealize.SL.Sem
open Idealize.ShloMosaic.Pipeline (Dat)

namespace Cert.MergeReferenceIdeal.Gated

open Cert.MergeReferenceIdeal Cert.MergeReferenceIdeal.Gen

/-- `1 / (1 + exp (-x))` at every element. -/
abbrev sigmoid (x : FVec Ideal S8192x2048 .f32) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32)) (Host.exp (Host.negf x)))

/-- The two branches, each projected and gated, summed. -/
abbrev merged (ys : FVec Ideal S8192x4096 .bf16) (ya : FVec Ideal S8192x2048 .bf16) (p : FVec Ideal S8192x16896 .bf16)
    (ws : FVec Ideal S1x4096x2048 .f32) (wa : FVec Ideal S1x2048x2048 .f32) : FVec Ideal S8192x2048 .f32 :=
  addf (mulf (sigmoid (extf .f32 (extractStridedSlice S8192x2048 ![0, 12800] p slices_S8192x16896_S8192x2048_0_12800) bitsLt_bf16_f32))
      (Host.dotGeneral dot_S8192x4096_S4096x2048_S8192x2048_1_0_0_1_n_n none (extf .f32 ys bitsLt_bf16_f32)
        (shapeCast _ ws shapeCasts_S1x4096x2048_S4096x2048)))
    (mulf (sigmoid (extf .f32 (extractStridedSlice S8192x2048 ![0, 14848] p slices_S8192x16896_S8192x2048_0_14848) bitsLt_bf16_f32))
      (Host.dotGeneral dot_S8192x2048_S2048x2048_S8192x2048_1_0_0_1_n_n none (extf .f32 ya bitsLt_bf16_f32)
        (shapeCast _ wa shapeCasts_S1x2048x2048_S2048x2048)))

/-- The reference's result as a function of its arguments. -/
abbrev result (x : FVec Ideal S8192x2048 .f32) (ys : FVec Ideal S8192x4096 .bf16) (ya : FVec Ideal S8192x2048 .bf16)
    (p : FVec Ideal S8192x16896 .bf16) (ws : FVec Ideal S1x4096x2048 .f32) (wa wo : FVec Ideal S1x2048x2048 .f32) :
    FVec Ideal S8192x2048 .f32 :=
  addf x (Host.dotGeneral dot_S8192x2048_S2048x2048_S8192x2048_1_0_0_1_n_n none (merged ys ya p ws wa)
    (shapeCast _ wo shapeCasts_S1x2048x2048_S2048x2048))

end Cert.MergeReferenceIdeal.Gated

namespace Cert.MergeIdeal.Gated

open Cert.MergeIdeal Cert.MergeIdeal.Gen

variable (m : (ℓ : Loc nD τ sig) → Buf (Elt Ideal) ℓ)

/-- What one point adds to the block: a stretch of columns of the gated sum, through the last matrix. -/
abbrev part (ys : FVec Ideal S512x4096 .bf16) (ws : FVec Ideal S4096x512 .bf16) (ya : FVec Ideal S512x2048 .bf16)
    (wa : FVec Ideal S2048x512 .bf16) (gs ga : FVec Ideal S512x512 .bf16) (wo : FVec Ideal S512x2048 .bf16)
    (j : S512x2048.Idx) : EReal :=
  ∑ k : Fin 512, (Ideal.logistic (gs (ix2 (j 0) k)) * (∑ d : Fin 4096, ys (ix2 (j 0) d) * ws (ix2 d k))
      + Ideal.logistic (ga (ix2 (j 0) k)) * ∑ d : Fin 2048, ya (ix2 (j 0) d) * wa (ix2 d k)) * wo (ix2 k (j 1))

theorem step_at (ys : FVec Ideal S512x4096 .bf16) (ws : FVec Ideal S4096x512 .bf16) (ya : FVec Ideal S512x2048 .bf16)
    (wa : FVec Ideal S2048x512 .bf16) (gs ga : FVec Ideal S512x512 .bf16) (acc : FVec Ideal S512x2048 .f32)
    (wo : FVec Ideal S512x2048 .bf16) (j : S512x2048.Idx) :
    k0_pay1 (F := Ideal) ys ws ya wa gs ga acc wo j = acc j + part ys ws ya wa gs ga wo j := by
  pointwise [k0_pay1, part]

theorem idx : ∀ t : Fin cfg0.N, win0_0.index t = ![t.val / 4, 0] ∧ win0_1.index t = ![t.val / 4, 0]
    ∧ win0_2.index t = ![t.val / 4, 0] ∧ win0_3.index t = ![t.val / 4, 25 + t.val % 4]
    ∧ win0_4.index t = ![t.val / 4, 29 + t.val % 4] ∧ win0_5.index t = ![0, t.val % 4]
    ∧ win0_6.index t = ![0, t.val % 4] ∧ win0_7.index t = ![t.val % 4, 0] ∧ win0_8.index t = ![t.val / 4, 0] :=
  (by decide +kernel : ∀ t : Fin grid0.N, _)

theorem rows_prev (c : Dev nD) (t : Fin cfg0.N) (h : ¬t.val % 4 = 0) :
    iblk m c 0 ⟨t.val - 1, Nat.lt_of_le_of_lt (Nat.sub_le _ _) t.isLt⟩ = iblk m c 0 t := by
  funext j
  blk_ext [iblk, idx t, idx ⟨t.val - 1, Nat.lt_of_le_of_lt (Nat.sub_le _ _) t.isLt⟩]

/-- The part that point `t` adds, of its input blocks. -/
abbrev partAt (c : Dev nD) (t : Fin cfg0.N) (j : S512x2048.Idx) : EReal :=
  part (iblk m c 1 t) (iblk m c 5 t) (iblk m c 2 t) (iblk m c 6 t) (iblk m c 3 t) (iblk m c 4 t) (iblk m c 7 t) j

/-- The block after the last point of its stretch: the rows, plus the parts of the stretch's four points. -/
theorem block (c : Dev nD) (t : Fin cfg0.N) (h : t.val % 4 = 3) (j : S512x2048.Idx) :
    outsAt0 m c t.val t.isLt j = (show FVec Ideal S512x2048 .f32 from iblk m c 0 t) j
      + ∑ s : Fin 4, partAt m c ⟨4 * (t.val / 4) + s.val, Pipeline.run_point_lt_of_flush t h s⟩ j := by
  refine Sums.after_last 4 (by decide) (fun n h => outsAt0 m c n h)
    (fun t j => (show FVec Ideal S512x2048 .f32 from iblk m c 0 t) j) (partAt m c) ?_ ?_ ?_ t h j
  · intro t h j
    rw [outsAt0_A m c t h]
    frame_out
    exact step_at _ _ _ _ _ _ _ _ _
  · intro t h j
    rw [outsAt0_B m c t h]
    frame_out
    exact step_at _ _ _ _ _ _ _ _ _
  · intro t h j
    exact congrFun (rows_prev m c t h) j

/-- The result array after the run is the reference's term of the arguments. -/
theorem final (c : Dev nD) : (dats m 0 c).arrAt 8 (cfgs 0).N = Cert.MergeReferenceIdeal.Gated.result
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) := by
  refine (dats m 0 c).arrAt_eq_of_covers 8 _ (by decide +kernel) fun t hf y => ?_
  have h3 : t.val % 4 = 3 := (flush0_8 t).mp hf
  blk_simp
  rw [after0_8, block m c t h3]
  pointwise [Cert.MergeReferenceIdeal.Gated.result, part, partAt]
  simp only [Ideal.logistic]
  refine congrArg₂ (fun a b : EReal => a + b) ?_ ?_
  · blk_ext [iblk, V, idx t]
  refine Fin.sum_mul_add_congr fun s k hl => ?_
  blk_point [iblk, V, idx t, idx ⟨4 * (t.val / 4) + s.val, Pipeline.run_point_lt_of_flush t h3 s⟩]

end Cert.MergeIdeal.Gated
-- ==== Proof.MergeClaims.lean ====
module

public import proofs.«01_k».proof.Defs
public import proofs.«01_k».proof.Proof.MergeValue
public import proofs.«01_k».proof.Proof.Gen.Merge.Frame
public import proofs.«01_k».proof.Proof.Gen.MergeIdeal.Frame
public import proofs.«01_k».proof.Proof.Gen.Merge
public import proofs.«01_k».proof.Proof.Gen.MergeIdeal
public import proofs.«01_k».proof.Proof.Gen.MergeReferenceIdeal
public import Idealize.ShloMosaic.Adequacy
public import Idealize.ShloMosaic.Init

/-! The five claims about the gated merge of the two branches. -/

@[expose] public section

set_option maxRecDepth 16384

noncomputable section

namespace Cert.Proof.MergeClaims

open Idealize.ShloMosaic Idealize.SL.Sem

/-- The program as written runs and leaves its arguments and semaphores alone. -/
theorem frame_p : Cert.quiescent_Merge := fun m ρ _ => Cert.Merge.Gen.frame m ρ

/-- So does its ideal reading. -/
theorem frame_pi : Cert.quiescent_MergeIdeal := fun m ρ _ => Cert.MergeIdeal.Gen.frame m ρ

/-- So does the reference; it has no semaphore. -/
theorem frame_ri : Cert.quiescent_MergeReferenceIdeal := fun m ρ _ =>
  (θ_run Cert.MergeReferenceIdeal.defs _ _).mono
    (fun r h => ⟨fun c => (h c).2, sem_eq_zero_of_no_sems (by decide) r.2⟩)
    (Cert.MergeReferenceIdeal.Value.run (F := Ideal) m ρ)

/-- The pass rewrote nothing. -/
theorem preserves : Cert.preserves_Merge_MergeIdeal := trivial

/-- The kernel's result array is the reference's. -/
theorem algebraic : Cert.algebraic_MergeIdeal_MergeReferenceIdeal := by
  intro m ρ m' ρ' _ hag
  refine ⟨_, Cert.MergeIdeal.Value.run_blocks m ρ, ?_⟩
  refine (θ_run Cert.MergeReferenceIdeal.defs _ _).mono (fun r h c => ⟨(h c).1.trans ?_, (h c).2⟩)
    (Cert.MergeReferenceIdeal.Value.run (F := Ideal) m' ρ')
  obtain ⟨a0, a1, a2, a3, a4, a5, a6⟩ := hag c
  rw [a0, a1, a2, a3, a4, a5, a6]
  exact (Cert.MergeIdeal.Gated.final m c).symm

end Cert.Proof.MergeClaims
-- ==== Proof.lean ====
/- The claims about the layer's calls, one module for each call, put together. -/
module

public import proofs.«01_k».proof.Defs
public import proofs.«01_k».proof.Proof.AttnClaims
public import proofs.«01_k».proof.Proof.FfnClaims
public import proofs.«01_k».proof.Proof.InprojClaims
public import proofs.«01_k».proof.Proof.MergeClaims

@[expose] public section

noncomputable section

namespace Cert.Proof

theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Inproj.Gen.facts, Cert.InprojIdeal.Gen.facts, Cert.InprojReferenceIdeal.Gen.facts,
    Cert.Merge.Gen.facts, Cert.MergeIdeal.Gen.facts, Cert.MergeReferenceIdeal.Gen.facts,
    Cert.Pre_finite_gains.Gen.facts,
    AttnClaims.frame_p, AttnClaims.frame_pi, AttnClaims.frame_pi_pre, AttnClaims.frame_ri, AttnClaims.frame_ri_pre,
    FfnClaims.frame_p, FfnClaims.frame_pi, FfnClaims.frame_ri,
    InprojClaims.frame_p, InprojClaims.frame_pi, InprojClaims.frame_ri,
    MergeClaims.frame_p, MergeClaims.frame_pi, MergeClaims.frame_ri,
    AttnClaims.preserves, AttnClaims.algebraic,
    FfnClaims.preserves, FfnClaims.algebraic, InprojClaims.preserves, InprojClaims.algebraic,
    MergeClaims.preserves, MergeClaims.algebraic⟩

end Cert.Proof

end
